-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![512, 1024]⟩ ⟨2, ![2048, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 1024]⟩ ⟨2, ![2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v59) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S512x1024 : Shape := ⟨2, ![512, 1024]⟩
abbrev S1024x1024 : Shape := ⟨2, ![1024, 1024]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S512x1024 .f32) (main_arg1 : FVec F S1024x1024 .f32) (main_arg2 : FVec F S1024x1024 .f32) (main_arg3 : FVec F S1024x1024 .f32) (main_arg4 : FVec F S1024x1024 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Pre_finite_ReferenceIdeal.lean ====
abbrev S2048x1024 : Shape := ⟨2, ![2048, 1024]⟩
abbrev S1024x4096 : Shape := ⟨2, ![1024, 4096]⟩
abbrev S4096x1024 : Shape := ⟨2, ![4096, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S2048x1024 .f32) (main_arg1 : FVec F S1024x4096 .f32) (main_arg2 : FVec F S4096x1024 .f32) (main_arg3 : FVec F S1024x4096 .f32) (main_arg4 : FVec F S1024x4096 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1024x4096 .f32 := Host.absf main_arg3
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  main_v13
-- ==== Kernel.lean ====
abbrev S512x1024 : Shape := ⟨2, ![512, 1024]⟩
abbrev S1024x1024 : Shape := ⟨2, ![1024, 1024]⟩
abbrev S2048x1024 : Shape := ⟨2, ![2048, 1024]⟩
abbrev S3x512x1024 : Shape := ⟨3, ![3, 512, 1024]⟩
abbrev S3 : Shape := ⟨1, ![3]⟩
abbrev S_ : Shape := ⟨0, ![]⟩
abbrev S1 : Shape := ⟨1, ![1]⟩
abbrev S512x128 : Shape := ⟨2, ![512, 128]⟩
abbrev S512x1 : Shape := ⟨2, ![512, 1]⟩
abbrev S1024x128 : Shape := ⟨2, ![1024, 128]⟩
abbrev S512 : Shape := ⟨1, ![512]⟩
abbrev S1x512x1024 : Shape := ⟨3, ![1, 512, 1024]⟩

abbrev nBuf : Space → Nat
  | .hbm => 6
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S512x1024, .f32⟩
  | .local _ .vmem, ⟨0, _⟩ => ⟨S512x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S512x1024, .f32⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S3x512x1024, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v34 : BitVec 32 := Scalar.muli v2 c512_i32
  let v35 : Index := Scalar.indexCast v34
  let c0_21 : Index := 0#32
  ![v35.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_29 : BitVec 32 := 512#32
  let v49 : BitVec 32 := Scalar.muli v2 c512_i32_29
  let c0_i32_36 : BitVec 32 := 0#32
  ![v49.toNat, 0]
def k0_dev3 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_34 : BitVec 32 := 1#32
  let v52 : BitVec 32 := Scalar.muli v25 c1_i32_34
  let v53 : BitVec 32 := Scalar.addi c0_i32_35 v52
  v53.toNat
def k0_dev4 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_40 : BitVec 32 := 1#32
  let v60 : BitVec 32 := Scalar.muli v14 c1_i32_40
  let v61 : BitVec 32 := Scalar.addi c0_i32_41 v60
  v61.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_57 : BitVec 32 := 4#32
  let v95 : BitVec 32 := Scalar.addi v2 c4_i32_57
  let c1_i32_58 : BitVec 32 := 1#32
  let v96 : BitVec 32 := Scalar.subi v95 c1_i32_58
  let c4_i32_59 : BitVec 32 := 4#32
  let c0_i32_60 : BitVec 32 := 0#32
  let v97 : BitVec 1 := Scalar.cmpi .eq c4_i32_59 c0_i32_60
  let c1_i32_61 : BitVec 32 := 1#32
  let v98 : BitVec 32 := Scalar.select v97 c1_i32_61 c4_i32_59
  let v99 : BitVec 32 := Scalar.remsi v96 v98
  let c0_i32_63 : BitVec 32 := 0#32
  let v101 : BitVec 1 := Scalar.cmpi .slt v99 c0_i32_63
  let c0_i32_64 : BitVec 32 := 0#32
  let v102 : BitVec 1 := Scalar.cmpi .slt v98 c0_i32_64
  let v103 : BitVec 1 := Scalar.xori v101 v102
  let c0_i32_62 : BitVec 32 := 0#32
  let v100 : BitVec 1 := Scalar.cmpi .ne v99 c0_i32_62
  let v104 : BitVec 1 := Scalar.andi v103 v100
  let v105 : BitVec 32 := Scalar.addi v99 v98
  let v106 : BitVec 32 := Scalar.select v104 v105 v99
  let c512_i32_66 : BitVec 32 := 512#32
  let v108 : BitVec 32 := Scalar.muli v106 c512_i32_66
  let c0_i32_71 : BitVec 32 := 0#32
  ![v108.toNat, 0]
def k0_dev5 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_69 : BitVec 32 := 1#32
  let v109 : BitVec 32 := Scalar.muli v25 c1_i32_69
  let v110 : BitVec 32 := Scalar.addi c0_i32_70 v109
  v110.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_79 : BitVec 32 := 4#32
  let v123 : BitVec 32 := Scalar.addi v2 c4_i32_79
  let c1_i32_80 : BitVec 32 := 1#32
  let v124 : BitVec 32 := Scalar.subi v123 c1_i32_80
  let c4_i32_81 : BitVec 32 := 4#32
  let c0_i32_82 : BitVec 32 := 0#32
  let v125 : BitVec 1 := Scalar.cmpi .eq c4_i32_81 c0_i32_82
  let c1_i32_83 : BitVec 32 := 1#32
  let v126 : BitVec 32 := Scalar.select v125 c1_i32_83 c4_i32_81
  let v127 : BitVec 32 := Scalar.remsi v124 v126
  let c0_i32_85 : BitVec 32 := 0#32
  let v129 : BitVec 1 := Scalar.cmpi .slt v127 c0_i32_85
  let c0_i32_86 : BitVec 32 := 0#32
  let v130 : BitVec 1 := Scalar.cmpi .slt v126 c0_i32_86
  let v131 : BitVec 1 := Scalar.xori v129 v130
  let c0_i32_84 : BitVec 32 := 0#32
  let v128 : BitVec 1 := Scalar.cmpi .ne v127 c0_i32_84
  let v132 : BitVec 1 := Scalar.andi v131 v128
  let v133 : BitVec 32 := Scalar.addi v127 v126
  let v134 : BitVec 32 := Scalar.select v132 v133 v127
  let c512_i32_87 : BitVec 32 := 512#32
  let v135 : BitVec 32 := Scalar.muli v134 c512_i32_87
  let v136 : Index := Scalar.indexCast v135
  let c0_88 : Index := 0#32
  ![v136.toNat, 0]
def k0_off5 (d0 : Dev nD) (c1_i32_95 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v156 : BitVec 32 := Scalar.addi v2 c1_i32_95
  let c4_i32_96 : BitVec 32 := 4#32
  let c0_i32_97 : BitVec 32 := 0#32
  let v157 : BitVec 1 := Scalar.cmpi .eq c4_i32_96 c0_i32_97
  let c1_i32_98 : BitVec 32 := 1#32
  let v158 : BitVec 32 := Scalar.select v157 c1_i32_98 c4_i32_96
  let v159 : BitVec 32 := Scalar.remsi v156 v158
  let c0_i32_100 : BitVec 32 := 0#32
  let v161 : BitVec 1 := Scalar.cmpi .slt v159 c0_i32_100
  let c0_i32_101 : BitVec 32 := 0#32
  let v162 : BitVec 1 := Scalar.cmpi .slt v158 c0_i32_101
  let v163 : BitVec 1 := Scalar.xori v161 v162
  let c0_i32_99 : BitVec 32 := 0#32
  let v160 : BitVec 1 := Scalar.cmpi .ne v159 c0_i32_99
  let v164 : BitVec 1 := Scalar.andi v163 v160
  let v165 : BitVec 32 := Scalar.addi v159 v158
  let v166 : BitVec 32 := Scalar.select v164 v165 v159
  let c512_i32_102 : BitVec 32 := 512#32
  let v167 : BitVec 32 := Scalar.muli v166 c512_i32_102
  let v168 : Index := Scalar.indexCast v167
  let c0_103 : Index := 0#32
  ![v168.toNat, 0]
def k0_off6 (d0 : Dev nD) (c2_i32_148 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v241 : BitVec 32 := Scalar.addi v2 c2_i32_148
  let c4_i32_149 : BitVec 32 := 4#32
  let c0_i32_150 : BitVec 32 := 0#32
  let v242 : BitVec 1 := Scalar.cmpi .eq c4_i32_149 c0_i32_150
  let c1_i32_151 : BitVec 32 := 1#32
  let v243 : BitVec 32 := Scalar.select v242 c1_i32_151 c4_i32_149
  let v244 : BitVec 32 := Scalar.remsi v241 v243
  let c0_i32_153 : BitVec 32 := 0#32
  let v246 : BitVec 1 := Scalar.cmpi .slt v244 c0_i32_153
  let c0_i32_154 : BitVec 32 := 0#32
  let v247 : BitVec 1 := Scalar.cmpi .slt v243 c0_i32_154
  let v248 : BitVec 1 := Scalar.xori v246 v247
  let c0_i32_152 : BitVec 32 := 0#32
  let v245 : BitVec 1 := Scalar.cmpi .ne v244 c0_i32_152
  let v249 : BitVec 1 := Scalar.andi v248 v245
  let v250 : BitVec 32 := Scalar.addi v244 v243
  let v251 : BitVec 32 := Scalar.select v249 v250 v244
  let c512_i32_155 : BitVec 32 := 512#32
  let v252 : BitVec 32 := Scalar.muli v251 c512_i32_155
  let v253 : Index := Scalar.indexCast v252
  let c0_156 : Index := 0#32
  ![v253.toNat, 0]
def k0_off7 (d0 : Dev nD) (c2_i32_148 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v241 : BitVec 32 := Scalar.addi v2 c2_i32_148
  let c4_i32_149 : BitVec 32 := 4#32
  let c0_i32_150 : BitVec 32 := 0#32
  let v242 : BitVec 1 := Scalar.cmpi .eq c4_i32_149 c0_i32_150
  let c1_i32_151 : BitVec 32 := 1#32
  let v243 : BitVec 32 := Scalar.select v242 c1_i32_151 c4_i32_149
  let v244 : BitVec 32 := Scalar.remsi v241 v243
  let c0_i32_153 : BitVec 32 := 0#32
  let v246 : BitVec 1 := Scalar.cmpi .slt v244 c0_i32_153
  let c0_i32_154 : BitVec 32 := 0#32
  let v247 : BitVec 1 := Scalar.cmpi .slt v243 c0_i32_154
  let v248 : BitVec 1 := Scalar.xori v246 v247
  let c0_i32_152 : BitVec 32 := 0#32
  let v245 : BitVec 1 := Scalar.cmpi .ne v244 c0_i32_152
  let v249 : BitVec 1 := Scalar.andi v248 v245
  let v250 : BitVec 32 := Scalar.addi v244 v243
  let v251 : BitVec 32 := Scalar.select v249 v250 v244
  let c512_i32_155 : BitVec 32 := 512#32
  let v252 : BitVec 32 := Scalar.muli v251 c512_i32_155
  let v287 : Index := Scalar.indexCast v252
  let c128 : Index := 128#32
  ![v287.toNat, 128]
def k0_off8 (d0 : Dev nD) (c2_i32_148 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v241 : BitVec 32 := Scalar.addi v2 c2_i32_148
  let c4_i32_149 : BitVec 32 := 4#32
  let c0_i32_150 : BitVec 32 := 0#32
  let v242 : BitVec 1 := Scalar.cmpi .eq c4_i32_149 c0_i32_150
  let c1_i32_151 : BitVec 32 := 1#32
  let v243 : BitVec 32 := Scalar.select v242 c1_i32_151 c4_i32_149
  let v244 : BitVec 32 := Scalar.remsi v241 v243
  let c0_i32_153 : BitVec 32 := 0#32
  let v246 : BitVec 1 := Scalar.cmpi .slt v244 c0_i32_153
  let c0_i32_154 : BitVec 32 := 0#32
  let v247 : BitVec 1 := Scalar.cmpi .slt v243 c0_i32_154
  let v248 : BitVec 1 := Scalar.xori v246 v247
  let c0_i32_152 : BitVec 32 := 0#32
  let v245 : BitVec 1 := Scalar.cmpi .ne v244 c0_i32_152
  let v249 : BitVec 1 := Scalar.andi v248 v245
  let v250 : BitVec 32 := Scalar.addi v244 v243
  let v251 : BitVec 32 := Scalar.select v249 v250 v244
  let c512_i32_155 : BitVec 32 := 512#32
  let v252 : BitVec 32 := Scalar.muli v251 c512_i32_155
  let v321 : Index := Scalar.indexCast v252
  let c256 : Index := 256#32
  ![v321.toNat, 256]
def k0_off9 (d0 : Dev nD) (c2_i32_148 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v241 : BitVec 32 := Scalar.addi v2 c2_i32_148
  let c4_i32_149 : BitVec 32 := 4#32
  let c0_i32_150 : BitVec 32 := 0#32
  let v242 : BitVec 1 := Scalar.cmpi .eq c4_i32_149 c0_i32_150
  let c1_i32_151 : BitVec 32 := 1#32
  let v243 : BitVec 32 := Scalar.select v242 c1_i32_151 c4_i32_149
  let v244 : BitVec 32 := Scalar.remsi v241 v243
  let c0_i32_153 : BitVec 32 := 0#32
  let v246 : BitVec 1 := Scalar.cmpi .slt v244 c0_i32_153
  let c0_i32_154 : BitVec 32 := 0#32
  let v247 : BitVec 1 := Scalar.cmpi .slt v243 c0_i32_154
  let v248 : BitVec 1 := Scalar.xori v246 v247
  let c0_i32_152 : BitVec 32 := 0#32
  let v245 : BitVec 1 := Scalar.cmpi .ne v244 c0_i32_152
  let v249 : BitVec 1 := Scalar.andi v248 v245
  let v250 : BitVec 32 := Scalar.addi v244 v243
  let v251 : BitVec 32 := Scalar.select v249 v250 v244
  let c512_i32_155 : BitVec 32 := 512#32
  let v252 : BitVec 32 := Scalar.muli v251 c512_i32_155
  let v355 : Index := Scalar.indexCast v252
  let c384 : Index := 384#32
  ![v355.toNat, 384]
def k0_off10 (d0 : Dev nD) (c2_i32_148 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v241 : BitVec 32 := Scalar.addi v2 c2_i32_148
  let c4_i32_149 : BitVec 32 := 4#32
  let c0_i32_150 : BitVec 32 := 0#32
  let v242 : BitVec 1 := Scalar.cmpi .eq c4_i32_149 c0_i32_150
  let c1_i32_151 : BitVec 32 := 1#32
  let v243 : BitVec 32 := Scalar.select v242 c1_i32_151 c4_i32_149
  let v244 : BitVec 32 := Scalar.remsi v241 v243
  let c0_i32_153 : BitVec 32 := 0#32
  let v246 : BitVec 1 := Scalar.cmpi .slt v244 c0_i32_153
  let c0_i32_154 : BitVec 32 := 0#32
  let v247 : BitVec 1 := Scalar.cmpi .slt v243 c0_i32_154
  let v248 : BitVec 1 := Scalar.xori v246 v247
  let c0_i32_152 : BitVec 32 := 0#32
  let v245 : BitVec 1 := Scalar.cmpi .ne v244 c0_i32_152
  let v249 : BitVec 1 := Scalar.andi v248 v245
  let v250 : BitVec 32 := Scalar.addi v244 v243
  let v251 : BitVec 32 := Scalar.select v249 v250 v244
  let c512_i32_155 : BitVec 32 := 512#32
  let v252 : BitVec 32 := Scalar.muli v251 c512_i32_155
  let v389 : Index := Scalar.indexCast v252
  let c512 : Index := 512#32
  ![v389.toNat, 512]
def k0_off11 (d0 : Dev nD) (c2_i32_148 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v241 : BitVec 32 := Scalar.addi v2 c2_i32_148
  let c4_i32_149 : BitVec 32 := 4#32
  let c0_i32_150 : BitVec 32 := 0#32
  let v242 : BitVec 1 := Scalar.cmpi .eq c4_i32_149 c0_i32_150
  let c1_i32_151 : BitVec 32 := 1#32
  let v243 : BitVec 32 := Scalar.select v242 c1_i32_151 c4_i32_149
  let v244 : BitVec 32 := Scalar.remsi v241 v243
  let c0_i32_153 : BitVec 32 := 0#32
  let v246 : BitVec 1 := Scalar.cmpi .slt v244 c0_i32_153
  let c0_i32_154 : BitVec 32 := 0#32
  let v247 : BitVec 1 := Scalar.cmpi .slt v243 c0_i32_154
  let v248 : BitVec 1 := Scalar.xori v246 v247
  let c0_i32_152 : BitVec 32 := 0#32
  let v245 : BitVec 1 := Scalar.cmpi .ne v244 c0_i32_152
  let v249 : BitVec 1 := Scalar.andi v248 v245
  let v250 : BitVec 32 := Scalar.addi v244 v243
  let v251 : BitVec 32 := Scalar.select v249 v250 v244
  let c512_i32_155 : BitVec 32 := 512#32
  let v252 : BitVec 32 := Scalar.muli v251 c512_i32_155
  let v423 : Index := Scalar.indexCast v252
  let c640 : Index := 640#32
  ![v423.toNat, 640]
def k0_off12 (d0 : Dev nD) (c2_i32_148 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v241 : BitVec 32 := Scalar.addi v2 c2_i32_148
  let c4_i32_149 : BitVec 32 := 4#32
  let c0_i32_150 : BitVec 32 := 0#32
  let v242 : BitVec 1 := Scalar.cmpi .eq c4_i32_149 c0_i32_150
  let c1_i32_151 : BitVec 32 := 1#32
  let v243 : BitVec 32 := Scalar.select v242 c1_i32_151 c4_i32_149
  let v244 : BitVec 32 := Scalar.remsi v241 v243
  let c0_i32_153 : BitVec 32 := 0#32
  let v246 : BitVec 1 := Scalar.cmpi .slt v244 c0_i32_153
  let c0_i32_154 : BitVec 32 := 0#32
  let v247 : BitVec 1 := Scalar.cmpi .slt v243 c0_i32_154
  let v248 : BitVec 1 := Scalar.xori v246 v247
  let c0_i32_152 : BitVec 32 := 0#32
  let v245 : BitVec 1 := Scalar.cmpi .ne v244 c0_i32_152
  let v249 : BitVec 1 := Scalar.andi v248 v245
  let v250 : BitVec 32 := Scalar.addi v244 v243
  let v251 : BitVec 32 := Scalar.select v249 v250 v244
  let c512_i32_155 : BitVec 32 := 512#32
  let v252 : BitVec 32 := Scalar.muli v251 c512_i32_155
  let v457 : Index := Scalar.indexCast v252
  let c768 : Index := 768#32
  ![v457.toNat, 768]
def k0_off13 (d0 : Dev nD) (c2_i32_148 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v241 : BitVec 32 := Scalar.addi v2 c2_i32_148
  let c4_i32_149 : BitVec 32 := 4#32
  let c0_i32_150 : BitVec 32 := 0#32
  let v242 : BitVec 1 := Scalar.cmpi .eq c4_i32_149 c0_i32_150
  let c1_i32_151 : BitVec 32 := 1#32
  let v243 : BitVec 32 := Scalar.select v242 c1_i32_151 c4_i32_149
  let v244 : BitVec 32 := Scalar.remsi v241 v243
  let c0_i32_153 : BitVec 32 := 0#32
  let v246 : BitVec 1 := Scalar.cmpi .slt v244 c0_i32_153
  let c0_i32_154 : BitVec 32 := 0#32
  let v247 : BitVec 1 := Scalar.cmpi .slt v243 c0_i32_154
  let v248 : BitVec 1 := Scalar.xori v246 v247
  let c0_i32_152 : BitVec 32 := 0#32
  let v245 : BitVec 1 := Scalar.cmpi .ne v244 c0_i32_152
  let v249 : BitVec 1 := Scalar.andi v248 v245
  let v250 : BitVec 32 := Scalar.addi v244 v243
  let v251 : BitVec 32 := Scalar.select v249 v250 v244
  let c512_i32_155 : BitVec 32 := 512#32
  let v252 : BitVec 32 := Scalar.muli v251 c512_i32_155
  let v491 : Index := Scalar.indexCast v252
  let c896 : Index := 896#32
  ![v491.toNat, 896]
def k0_dev6 (d0 : Dev nD) : Nat :=
  let c0_i32_325 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_324 : BitVec 32 := 1#32
  let v531 : BitVec 32 := Scalar.muli v25 c1_i32_324
  let v532 : BitVec 32 := Scalar.addi c0_i32_325 v531
  v532.toNat
def k0_dev7 (d0 : Dev nD) : Nat :=
  let c0_i32_529 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_528 : BitVec 32 := 1#32
  let v843 : BitVec 32 := Scalar.muli v25 c1_i32_528
  let v844 : BitVec 32 := Scalar.addi c0_i32_529 v843
  v844.toNat
def k0_off14 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_532 : BitVec 32 := 4#32
  let v851 : BitVec 32 := Scalar.addi v2 c4_i32_532
  let c1_i32_533 : BitVec 32 := 1#32
  let v852 : BitVec 32 := Scalar.subi v851 c1_i32_533
  let c4_i32_534 : BitVec 32 := 4#32
  let c0_i32_535 : BitVec 32 := 0#32
  let v853 : BitVec 1 := Scalar.cmpi .eq c4_i32_534 c0_i32_535
  let c1_i32_536 : BitVec 32 := 1#32
  let v854 : BitVec 32 := Scalar.select v853 c1_i32_536 c4_i32_534
  let v855 : BitVec 32 := Scalar.remsi v852 v854
  let c0_i32_538 : BitVec 32 := 0#32
  let v857 : BitVec 1 := Scalar.cmpi .slt v855 c0_i32_538
  let c0_i32_539 : BitVec 32 := 0#32
  let v858 : BitVec 1 := Scalar.cmpi .slt v854 c0_i32_539
  let v859 : BitVec 1 := Scalar.xori v857 v858
  let c0_i32_537 : BitVec 32 := 0#32
  let v856 : BitVec 1 := Scalar.cmpi .ne v855 c0_i32_537
  let v860 : BitVec 1 := Scalar.andi v859 v856
  let v861 : BitVec 32 := Scalar.addi v855 v854
  let v862 : BitVec 32 := Scalar.select v860 v861 v855
  let c512_i32_540 : BitVec 32 := 512#32
  let v863 : BitVec 32 := Scalar.muli v862 c512_i32_540
  let v864 : Index := Scalar.indexCast v863
  let c0_541 : Index := 0#32
  ![v864.toNat, 0]
def k0_off15 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_532 : BitVec 32 := 4#32
  let v851 : BitVec 32 := Scalar.addi v2 c4_i32_532
  let c1_i32_533 : BitVec 32 := 1#32
  let v852 : BitVec 32 := Scalar.subi v851 c1_i32_533
  let c4_i32_534 : BitVec 32 := 4#32
  let c0_i32_535 : BitVec 32 := 0#32
  let v853 : BitVec 1 := Scalar.cmpi .eq c4_i32_534 c0_i32_535
  let c1_i32_536 : BitVec 32 := 1#32
  let v854 : BitVec 32 := Scalar.select v853 c1_i32_536 c4_i32_534
  let v855 : BitVec 32 := Scalar.remsi v852 v854
  let c0_i32_538 : BitVec 32 := 0#32
  let v857 : BitVec 1 := Scalar.cmpi .slt v855 c0_i32_538
  let c0_i32_539 : BitVec 32 := 0#32
  let v858 : BitVec 1 := Scalar.cmpi .slt v854 c0_i32_539
  let v859 : BitVec 1 := Scalar.xori v857 v858
  let c0_i32_537 : BitVec 32 := 0#32
  let v856 : BitVec 1 := Scalar.cmpi .ne v855 c0_i32_537
  let v860 : BitVec 1 := Scalar.andi v859 v856
  let v861 : BitVec 32 := Scalar.addi v855 v854
  let v862 : BitVec 32 := Scalar.select v860 v861 v855
  let c512_i32_540 : BitVec 32 := 512#32
  let v863 : BitVec 32 := Scalar.muli v862 c512_i32_540
  let v898 : Index := Scalar.indexCast v863
  let c128_562 : Index := 128#32
  ![v898.toNat, 128]
def k0_off16 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_532 : BitVec 32 := 4#32
  let v851 : BitVec 32 := Scalar.addi v2 c4_i32_532
  let c1_i32_533 : BitVec 32 := 1#32
  let v852 : BitVec 32 := Scalar.subi v851 c1_i32_533
  let c4_i32_534 : BitVec 32 := 4#32
  let c0_i32_535 : BitVec 32 := 0#32
  let v853 : BitVec 1 := Scalar.cmpi .eq c4_i32_534 c0_i32_535
  let c1_i32_536 : BitVec 32 := 1#32
  let v854 : BitVec 32 := Scalar.select v853 c1_i32_536 c4_i32_534
  let v855 : BitVec 32 := Scalar.remsi v852 v854
  let c0_i32_538 : BitVec 32 := 0#32
  let v857 : BitVec 1 := Scalar.cmpi .slt v855 c0_i32_538
  let c0_i32_539 : BitVec 32 := 0#32
  let v858 : BitVec 1 := Scalar.cmpi .slt v854 c0_i32_539
  let v859 : BitVec 1 := Scalar.xori v857 v858
  let c0_i32_537 : BitVec 32 := 0#32
  let v856 : BitVec 1 := Scalar.cmpi .ne v855 c0_i32_537
  let v860 : BitVec 1 := Scalar.andi v859 v856
  let v861 : BitVec 32 := Scalar.addi v855 v854
  let v862 : BitVec 32 := Scalar.select v860 v861 v855
  let c512_i32_540 : BitVec 32 := 512#32
  let v863 : BitVec 32 := Scalar.muli v862 c512_i32_540
  let v932 : Index := Scalar.indexCast v863
  let c256_583 : Index := 256#32
  ![v932.toNat, 256]
def k0_off17 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_532 : BitVec 32 := 4#32
  let v851 : BitVec 32 := Scalar.addi v2 c4_i32_532
  let c1_i32_533 : BitVec 32 := 1#32
  let v852 : BitVec 32 := Scalar.subi v851 c1_i32_533
  let c4_i32_534 : BitVec 32 := 4#32
  let c0_i32_535 : BitVec 32 := 0#32
  let v853 : BitVec 1 := Scalar.cmpi .eq c4_i32_534 c0_i32_535
  let c1_i32_536 : BitVec 32 := 1#32
  let v854 : BitVec 32 := Scalar.select v853 c1_i32_536 c4_i32_534
  let v855 : BitVec 32 := Scalar.remsi v852 v854
  let c0_i32_538 : BitVec 32 := 0#32
  let v857 : BitVec 1 := Scalar.cmpi .slt v855 c0_i32_538
  let c0_i32_539 : BitVec 32 := 0#32
  let v858 : BitVec 1 := Scalar.cmpi .slt v854 c0_i32_539
  let v859 : BitVec 1 := Scalar.xori v857 v858
  let c0_i32_537 : BitVec 32 := 0#32
  let v856 : BitVec 1 := Scalar.cmpi .ne v855 c0_i32_537
  let v860 : BitVec 1 := Scalar.andi v859 v856
  let v861 : BitVec 32 := Scalar.addi v855 v854
  let v862 : BitVec 32 := Scalar.select v860 v861 v855
  let c512_i32_540 : BitVec 32 := 512#32
  let v863 : BitVec 32 := Scalar.muli v862 c512_i32_540
  let v966 : Index := Scalar.indexCast v863
  let c384_604 : Index := 384#32
  ![v966.toNat, 384]
def k0_off18 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_532 : BitVec 32 := 4#32
  let v851 : BitVec 32 := Scalar.addi v2 c4_i32_532
  let c1_i32_533 : BitVec 32 := 1#32
  let v852 : BitVec 32 := Scalar.subi v851 c1_i32_533
  let c4_i32_534 : BitVec 32 := 4#32
  let c0_i32_535 : BitVec 32 := 0#32
  let v853 : BitVec 1 := Scalar.cmpi .eq c4_i32_534 c0_i32_535
  let c1_i32_536 : BitVec 32 := 1#32
  let v854 : BitVec 32 := Scalar.select v853 c1_i32_536 c4_i32_534
  let v855 : BitVec 32 := Scalar.remsi v852 v854
  let c0_i32_538 : BitVec 32 := 0#32
  let v857 : BitVec 1 := Scalar.cmpi .slt v855 c0_i32_538
  let c0_i32_539 : BitVec 32 := 0#32
  let v858 : BitVec 1 := Scalar.cmpi .slt v854 c0_i32_539
  let v859 : BitVec 1 := Scalar.xori v857 v858
  let c0_i32_537 : BitVec 32 := 0#32
  let v856 : BitVec 1 := Scalar.cmpi .ne v855 c0_i32_537
  let v860 : BitVec 1 := Scalar.andi v859 v856
  let v861 : BitVec 32 := Scalar.addi v855 v854
  let v862 : BitVec 32 := Scalar.select v860 v861 v855
  let c512_i32_540 : BitVec 32 := 512#32
  let v863 : BitVec 32 := Scalar.muli v862 c512_i32_540
  let v1000 : Index := Scalar.indexCast v863
  let c512_625 : Index := 512#32
  ![v1000.toNat, 512]
def k0_off19 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_532 : BitVec 32 := 4#32
  let v851 : BitVec 32 := Scalar.addi v2 c4_i32_532
  let c1_i32_533 : BitVec 32 := 1#32
  let v852 : BitVec 32 := Scalar.subi v851 c1_i32_533
  let c4_i32_534 : BitVec 32 := 4#32
  let c0_i32_535 : BitVec 32 := 0#32
  let v853 : BitVec 1 := Scalar.cmpi .eq c4_i32_534 c0_i32_535
  let c1_i32_536 : BitVec 32 := 1#32
  let v854 : BitVec 32 := Scalar.select v853 c1_i32_536 c4_i32_534
  let v855 : BitVec 32 := Scalar.remsi v852 v854
  let c0_i32_538 : BitVec 32 := 0#32
  let v857 : BitVec 1 := Scalar.cmpi .slt v855 c0_i32_538
  let c0_i32_539 : BitVec 32 := 0#32
  let v858 : BitVec 1 := Scalar.cmpi .slt v854 c0_i32_539
  let v859 : BitVec 1 := Scalar.xori v857 v858
  let c0_i32_537 : BitVec 32 := 0#32
  let v856 : BitVec 1 := Scalar.cmpi .ne v855 c0_i32_537
  let v860 : BitVec 1 := Scalar.andi v859 v856
  let v861 : BitVec 32 := Scalar.addi v855 v854
  let v862 : BitVec 32 := Scalar.select v860 v861 v855
  let c512_i32_540 : BitVec 32 := 512#32
  let v863 : BitVec 32 := Scalar.muli v862 c512_i32_540
  let v1034 : Index := Scalar.indexCast v863
  let c640_646 : Index := 640#32
  ![v1034.toNat, 640]
def k0_off20 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_532 : BitVec 32 := 4#32
  let v851 : BitVec 32 := Scalar.addi v2 c4_i32_532
  let c1_i32_533 : BitVec 32 := 1#32
  let v852 : BitVec 32 := Scalar.subi v851 c1_i32_533
  let c4_i32_534 : BitVec 32 := 4#32
  let c0_i32_535 : BitVec 32 := 0#32
  let v853 : BitVec 1 := Scalar.cmpi .eq c4_i32_534 c0_i32_535
  let c1_i32_536 : BitVec 32 := 1#32
  let v854 : BitVec 32 := Scalar.select v853 c1_i32_536 c4_i32_534
  let v855 : BitVec 32 := Scalar.remsi v852 v854
  let c0_i32_538 : BitVec 32 := 0#32
  let v857 : BitVec 1 := Scalar.cmpi .slt v855 c0_i32_538
  let c0_i32_539 : BitVec 32 := 0#32
  let v858 : BitVec 1 := Scalar.cmpi .slt v854 c0_i32_539
  let v859 : BitVec 1 := Scalar.xori v857 v858
  let c0_i32_537 : BitVec 32 := 0#32
  let v856 : BitVec 1 := Scalar.cmpi .ne v855 c0_i32_537
  let v860 : BitVec 1 := Scalar.andi v859 v856
  let v861 : BitVec 32 := Scalar.addi v855 v854
  let v862 : BitVec 32 := Scalar.select v860 v861 v855
  let c512_i32_540 : BitVec 32 := 512#32
  let v863 : BitVec 32 := Scalar.muli v862 c512_i32_540
  let v1068 : Index := Scalar.indexCast v863
  let c768_667 : Index := 768#32
  ![v1068.toNat, 768]
def k0_off21 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_532 : BitVec 32 := 4#32
  let v851 : BitVec 32 := Scalar.addi v2 c4_i32_532
  let c1_i32_533 : BitVec 32 := 1#32
  let v852 : BitVec 32 := Scalar.subi v851 c1_i32_533
  let c4_i32_534 : BitVec 32 := 4#32
  let c0_i32_535 : BitVec 32 := 0#32
  let v853 : BitVec 1 := Scalar.cmpi .eq c4_i32_534 c0_i32_535
  let c1_i32_536 : BitVec 32 := 1#32
  let v854 : BitVec 32 := Scalar.select v853 c1_i32_536 c4_i32_534
  let v855 : BitVec 32 := Scalar.remsi v852 v854
  let c0_i32_538 : BitVec 32 := 0#32
  let v857 : BitVec 1 := Scalar.cmpi .slt v855 c0_i32_538
  let c0_i32_539 : BitVec 32 := 0#32
  let v858 : BitVec 1 := Scalar.cmpi .slt v854 c0_i32_539
  let v859 : BitVec 1 := Scalar.xori v857 v858
  let c0_i32_537 : BitVec 32 := 0#32
  let v856 : BitVec 1 := Scalar.cmpi .ne v855 c0_i32_537
  let v860 : BitVec 1 := Scalar.andi v859 v856
  let v861 : BitVec 32 := Scalar.addi v855 v854
  let v862 : BitVec 32 := Scalar.select v860 v861 v855
  let c512_i32_540 : BitVec 32 := 512#32
  let v863 : BitVec 32 := Scalar.muli v862 c512_i32_540
  let v1102 : Index := Scalar.indexCast v863
  let c896_688 : Index := 896#32
  ![v1102.toNat, 896]
def k0_dev8 (d0 : Dev nD) : Nat :=
  let c0_i32_718 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_717 : BitVec 32 := 1#32
  let v1142 : BitVec 32 := Scalar.muli v14 c1_i32_717
  let v1143 : BitVec 32 := Scalar.addi c0_i32_718 v1142
  v1143.toNat
def k0_off22 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_721 : BitVec 32 := 512#32
  let v1150 : BitVec 32 := Scalar.muli v2 c512_i32_721
  let v1151 : Index := Scalar.indexCast v1150
  let c0_722 : Index := 0#32
  ![v1151.toNat, 0]
def k0_off23 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_721 : BitVec 32 := 512#32
  let v1150 : BitVec 32 := Scalar.muli v2 c512_i32_721
  let v1185 : Index := Scalar.indexCast v1150
  let c128_743 : Index := 128#32
  ![v1185.toNat, 128]
def k0_off24 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_721 : BitVec 32 := 512#32
  let v1150 : BitVec 32 := Scalar.muli v2 c512_i32_721
  let v1219 : Index := Scalar.indexCast v1150
  let c256_764 : Index := 256#32
  ![v1219.toNat, 256]
def k0_off25 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_721 : BitVec 32 := 512#32
  let v1150 : BitVec 32 := Scalar.muli v2 c512_i32_721
  let v1253 : Index := Scalar.indexCast v1150
  let c384_785 : Index := 384#32
  ![v1253.toNat, 384]
def k0_off26 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_721 : BitVec 32 := 512#32
  let v1150 : BitVec 32 := Scalar.muli v2 c512_i32_721
  let v1287 : Index := Scalar.indexCast v1150
  let c512_806 : Index := 512#32
  ![v1287.toNat, 512]
def k0_off27 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_721 : BitVec 32 := 512#32
  let v1150 : BitVec 32 := Scalar.muli v2 c512_i32_721
  let v1321 : Index := Scalar.indexCast v1150
  let c640_827 : Index := 640#32
  ![v1321.toNat, 640]
def k0_off28 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_721 : BitVec 32 := 512#32
  let v1150 : BitVec 32 := Scalar.muli v2 c512_i32_721
  let v1355 : Index := Scalar.indexCast v1150
  let c768_848 : Index := 768#32
  ![v1355.toNat, 768]
def k0_off29 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_721 : BitVec 32 := 512#32
  let v1150 : BitVec 32 := Scalar.muli v2 c512_i32_721
  let v1389 : Index := Scalar.indexCast v1150
  let c896_869 : Index := 896#32
  ![v1389.toNat, 896]
abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2048x1024 : Shape := ⟨2, ![2048, 1024]⟩
abbrev S1024x4096 : Shape := ⟨2, ![1024, 4096]⟩
abbrev S4096x1024 : Shape := ⟨2, ![4096, 1024]⟩
abbrev S2048x4096 : Shape := ⟨2, ![2048, 4096]⟩
abbrev S2048x32x128 : Shape := ⟨3, ![2048, 32, 128]⟩
abbrev S_ : Shape := ⟨0, ![]⟩
abbrev S32x2048x1 : Shape := ⟨3, ![32, 2048, 1]⟩
abbrev S1024x32x128 : Shape := ⟨3, ![1024, 32, 128]⟩
abbrev S32x2048x1024 : Shape := ⟨3, ![32, 2048, 1024]⟩
abbrev S32x2048 : Shape := ⟨2, ![32, 2048]⟩
abbrev S2048x32x1 : Shape := ⟨3, ![2048, 32, 1]⟩
abbrev S32x128x2048 : Shape := ⟨3, ![32, 128, 2048]⟩

abbrev nBuf : Space → Nat
  | .hbm => 74
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096x1024, .f32⟩
  | .hbm, ⟨3, _⟩ => ⟨S1024x4096, .f32⟩
  | .hbm, ⟨4, _⟩ => ⟨S1024x4096, .f32⟩
  | .hbm, ⟨5, _⟩ => ⟨S2048x4096, .f32⟩
  | .hbm, ⟨6, _⟩ => ⟨S2048x32x128, .f32⟩
  | .hbm, ⟨7, _⟩ => ⟨S2048x4096, .f32⟩
  | .hbm, ⟨8, _⟩ => ⟨S2048x32x128, .f32⟩
  | .hbm, ⟨9, _⟩ => ⟨S2048x4096, .f32⟩
  | .hbm, ⟨10, _⟩ => ⟨S2048x32x128, .f32⟩
  | .hbm, ⟨11, _⟩ => ⟨S_, .f32⟩
  | .hbm, ⟨12, _⟩ => ⟨S2048x32x128, .f32⟩
  | .hbm, ⟨13, _⟩ => ⟨S_, .f32⟩
  | .hbm, ⟨14, _⟩ => ⟨S32x2048x1, .f32⟩
  | .hbm, ⟨15, _⟩ => ⟨S_, .f32⟩
  | .hbm, ⟨16, _⟩ => ⟨S32x2048x1, .f32⟩
  | .hbm, ⟨17, _⟩ => ⟨S1024x32x128, .f32⟩
  | .hbm, ⟨18, _⟩ => ⟨S1024x32x128, .f32⟩
  | .hbm, ⟨19, _⟩ => ⟨S32x2048x1024, .f32⟩
  | .hbm, ⟨20, _⟩ => ⟨S_, .f32⟩
  | .hbm, ⟨21, _⟩ => ⟨S32x2048x1024, .f32⟩
  | .hbm, ⟨22, _⟩ => ⟨S32x2048x1024, .f32⟩
  | .hbm, ⟨23, _⟩ => ⟨S_, .f32⟩
  | .hbm, ⟨24, _⟩ => ⟨S32x2048, .f32⟩
  | .hbm, ⟨25, _⟩ => ⟨S32x2048x1, .f32⟩
  | .hbm, ⟨26, _⟩ => ⟨S32x2048x1, .f32⟩
  | .hbm, ⟨27, _⟩ => ⟨S32x2048x1, .f32⟩
  | .hbm, ⟨28, _⟩ => ⟨S32x2048x1, .f32⟩
  | .hbm, ⟨29, _⟩ => ⟨S32x2048x1024, .f32⟩
  | .hbm, ⟨30, _⟩ => ⟨S32x2048x1024, .f32⟩
  | .hbm, ⟨31, _⟩ => ⟨S32x2048x1024, .f32⟩
  | .hbm, ⟨32, _⟩ => ⟨S32x2048x1, .f32⟩
  | .hbm, ⟨33, _⟩ => ⟨S_, .f32⟩
  | .hbm, ⟨34, _⟩ => ⟨S32x2048, .f32⟩
  | .hbm, ⟨35, _⟩ => ⟨S32x2048x1, .f32⟩
  | .hbm, ⟨36, _⟩ => ⟨S32x2048x1, .f32⟩
  | .hbm, ⟨37, _⟩ => ⟨S2048x32x1, .f32⟩
  | .hbm, ⟨38, _⟩ => ⟨S2048x32x128, .f32⟩
  | .hbm, ⟨39, _⟩ => ⟨S2048x32x128, .f32⟩
  | .hbm, ⟨40, _⟩ => ⟨S32x128x2048, .f32⟩
  | .hbm, ⟨41, _⟩ => ⟨S2048x32x128, .f32⟩
  | .hbm, ⟨42, _⟩ => ⟨S2048x32x128, .f32⟩
  | .hbm, ⟨43, _⟩ => ⟨S1024x32x128, .f32⟩
  | .hbm, ⟨44, _⟩ => ⟨S1024x32x128, .f32⟩
  | .hbm, ⟨45, _⟩ => ⟨S32x2048x1024, .f32⟩
  | .hbm, ⟨46, _⟩ => ⟨S_, .f32⟩
  | .hbm, ⟨47, _⟩ => ⟨S32x2048x1024, .f32⟩
  | .hbm, ⟨48, _⟩ => ⟨S32x2048x1024, .f32⟩
  | .hbm, ⟨49, _⟩ => ⟨S_, .f32⟩
  | .hbm, ⟨50, _⟩ => ⟨S32x2048, .f32⟩
  | .hbm, ⟨51, _⟩ => ⟨S32x2048x1, .f32⟩
  | .hbm, ⟨52, _⟩ => ⟨S32x2048x1, .f32⟩
  | .hbm, ⟨53, _⟩ => ⟨S32x2048x1, .f32⟩
  | .hbm, ⟨54, _⟩ => ⟨S32x2048x1, .f32⟩
  | .hbm, ⟨55, _⟩ => ⟨S32x2048x1024, .f32⟩
  | .hbm, ⟨56, _⟩ => ⟨S32x2048x1024, .f32⟩
  | .hbm, ⟨57, _⟩ => ⟨S32x2048x1024, .f32⟩
  | .hbm, ⟨58, _⟩ => ⟨S32x2048x1, .f32⟩
  | .hbm, ⟨59, _⟩ => ⟨S_, .f32⟩
  | .hbm, ⟨60, _⟩ => ⟨S32x2048, .f32⟩
  | .hbm, ⟨61, _⟩ => ⟨S32x2048x1, .f32⟩
  | .hbm, ⟨62, _⟩ => ⟨S32x2048x1, .f32⟩
  | .hbm, ⟨63, _⟩ => ⟨S2048x32x1, .f32⟩
  | .hbm, ⟨64, _⟩ => ⟨S2048x32x128, .f32⟩
  | .hbm, ⟨65, _⟩ => ⟨S2048x32x128, .f32⟩
  | .hbm, ⟨66, _⟩ => ⟨S32x128x2048, .f32⟩
  | .hbm, ⟨67, _⟩ => ⟨S2048x32x128, .f32⟩
  | .hbm, ⟨68, _⟩ => ⟨S2048x32x128, .f32⟩
  | .hbm, ⟨69, _⟩ => ⟨S2048x32x1, .f32⟩
  | .hbm, ⟨70, _⟩ => ⟨S2048x32x128, .f32⟩
  | .hbm, ⟨71, _⟩ => ⟨S2048x32x128, .f32⟩
  | .hbm, ⟨72, _⟩ => ⟨S2048x4096, .f32⟩
  | .hbm, ⟨73, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩

abbrev nD : Nat := 1
abbrev τ : Topo := Topo.v7x

variable {F : FTy → Type} [FloatOps F]
-- ==== Proof.Common.lean ====
/-
The devices of the ring, what the kernel's buffers hold, and the protocol of its transfers.

Four devices stand in a ring. Each keeps one chunk of the rows of `x`, gathers the three others (two transfers to the
right, one to the left), computes its heads' attention for every chunk, and the partial products return to the chunks'
owners in three transfers (two to the right, one to the left). A device opens its buffers to its neighbours by one
unit on each neighbour's barrier semaphore: the unit hands over the rows and slots the neighbour writes into. Each
transfer has a send cell, which gives the source back, and a receive cell, which hands over the rows or the slot
written, at the contents written.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.MemrefSat
public import Idealize.ShloMosaic.Lib.Tactic

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

abbrev 𝒱₀ : Variants := Variants.none

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩
set_option backward.proofsInPublic true in
/-- The device opposite `c`. -/
def opp (c : Dev nD) : Dev nD := ⟨(c.val + 2) % 4, Nat.mod_lt _ (by decide)⟩

theorem prv_nxt (c : Dev nD) : prv (nxt c) = c := by revert c; decide
theorem nxt_prv (c : Dev nD) : nxt (prv c) = c := by revert c; decide
theorem prv_prv (c : Dev nD) : prv (prv c) = opp c := by revert c; decide
theorem opp_opp (c : Dev nD) : opp (opp c) = c := by revert c; decide
theorem opp_nxt (c : Dev nD) : opp (nxt c) = prv c := by revert c; decide

def ring : Dev nD ≃ Dev nD := ⟨nxt, prv, prv_nxt, nxt_prv⟩

theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = nxt c := by revert c; decide +kernel
theorem dev4_eq (c : Dev nD) : (⟨k0_dev4 c, k0_dev4_lt c⟩ : Dev nD) = prv c := by revert c; decide +kernel
theorem dev5_eq (c : Dev nD) : (⟨k0_dev5 c, k0_dev5_lt c⟩ : Dev nD) = nxt c := by revert c; decide +kernel
theorem dev6_eq (c : Dev nD) : (⟨k0_dev6 c, k0_dev6_lt c⟩ : Dev nD) = nxt c := by revert c; decide +kernel
theorem dev7_eq (c : Dev nD) : (⟨k0_dev7 c, k0_dev7_lt c⟩ : Dev nD) = nxt c := by revert c; decide +kernel
theorem dev8_eq (c : Dev nD) : (⟨k0_dev8 c, k0_dev8_lt c⟩ : Dev nD) = prv c := by revert c; decide +kernel

/-! ## The rows of a chunk -/

/-- The first row of chunk `j`, at column `128 h`. -/
abbrev offs (j : Dev nD) (h : ℕ) : Fin 2 → ℕ := ![512 * j.val, 128 * h]

theorem off1_eq : ∀ c : Dev nD, k0_off1 c = offs c 0 := by decide +kernel
theorem off2_eq : ∀ c : Dev nD, k0_off2 c = offs c 0 := by decide +kernel
theorem off3_eq : ∀ c : Dev nD, k0_off3 c = offs (prv c) 0 := by decide +kernel
theorem off4_eq : ∀ c : Dev nD, k0_off4 c = offs (prv c) 0 := by decide +kernel
theorem off5_eq_nxt : ∀ c : Dev nD, k0_off5 c 1#32 = offs (nxt c) 0 := by decide +kernel
theorem off5_eq_opp : ∀ c : Dev nD, k0_off5 c 2#32 = offs (opp c) 0 := by decide +kernel

theorem offs_inb : ∀ (j : Dev nD) (a : Fin 2), offs j 0 a + S512x1024.size a ≤ S2048x1024.size a := by decide +kernel
theorem offs_inb_head : ∀ (j : Dev nD) (h : Fin 8) (a : Fin 2), offs j h.val a + S512x128.size a ≤ S2048x1024.size a := by decide +kernel

/-- The rows of chunk `j`, -/
abbrev rows (j : Dev nD) : Rect S2048x1024 := Rect.unit (s := S2048x1024) (offs j 0) S512x1024.size (offs_inb j)
/-- and their columns of head `h`. -/
abbrev rowsHead (j : Dev nD) (h : Fin 8) : Rect S2048x1024 := Rect.unit (s := S2048x1024) (offs j h.val) S512x128.size (offs_inb_head j h)

/-! ## The memrefs and the cells -/

abbrev xcM : Memref sig .tc .vmem S2048x1024 .bf16 := Memref.whole cc0_scratch0
abbrev qbM : Memref sig .tc .vmem S2048x1024 .bf16 := Memref.whole cc0_scratch1
abbrev kbM : Memref sig .tc .vmem S2048x1024 .bf16 := Memref.whole cc0_scratch2
abbrev vbM : Memref sig .tc .vmem S2048x1024 .bf16 := Memref.whole cc0_scratch3
abbrev atM : Memref sig .tc .vmem S512x1024 .bf16 := Memref.whole cc0_scratch4
abbrev paM : Memref sig .tc .vmem S512x1024 .bf16 := Memref.whole cc0_scratch5
abbrev pbM : Memref sig .tc .vmem S512x1024 .bf16 := Memref.whole cc0_scratch6
abbrev rsM : Memref sig .tc .vmem S3x512x1024 .bf16 := Memref.whole cc0_scratch7

/-- The rows of chunk `j` of a buffer of all rows. -/
abbrev piece (M : Memref sig .tc .vmem S2048x1024 .bf16) (j : Dev nD) : Memref sig .tc .vmem S512x1024 .bf16 :=
  M.slice (rows j) (fun _ => rfl)

/-- The three slots that partial products land in. -/
abbrev slot0 : Memref sig .tc .vmem S512x1024 .bf16 :=
  (rsM.slice (Rect.unit (s := S3x512x1024) ![0, 0, 0] S1x512x1024.size inb_S3x512x1024_S1x512x1024_0_0_0) (fun _ => rfl)).squeeze S512x1024 squeezes_S1x512x1024_S512x1024
abbrev slot1 : Memref sig .tc .vmem S512x1024 .bf16 :=
  (rsM.slice (Rect.unit (s := S3x512x1024) ![1, 0, 0] S1x512x1024.size inb_S3x512x1024_S1x512x1024_1_0_0) (fun _ => rfl)).squeeze S512x1024 squeezes_S1x512x1024_S512x1024
abbrev slot2 : Memref sig .tc .vmem S512x1024 .bf16 :=
  (rsM.slice (Rect.unit (s := S3x512x1024) ![2, 0, 0] S1x512x1024.size inb_S3x512x1024_S1x512x1024_2_0_0) (fun _ => rfl)).squeeze S512x1024 squeezes_S1x512x1024_S512x1024

abbrev barS : Sem sig := (SemArray.scalar (sig.barrier 0 rfl) : Sems sig S_).sem

abbrev barCell (c : Dev nD) : GSem nD τ sig := ((c : Thread nD τ), .reg barS)
abbrev dmaCell (c : Dev nD) (q : DmaSem sig) : GSem nD τ sig := ((c : Thread nD τ), .dma q)

/-- What one transfer of a chunk adds to its cells. -/
abbrev N : ℕ := (paM : Memref sig .tc .vmem S512x1024 .bf16).view.dmaCredit
theorem N_pos : 0 < N := View.dmaCredit_pos _ (by decide)

theorem ag_send0 : ((cc0_scratch8.slice (Rect.unit (s := S3) ![0] S1.size inb_S3_S1_0)).squeeze S_ squeezes_S1_S_).sem = (6 : DmaSem sig) := by decide
theorem ag_send1 : ((cc0_scratch8.slice (Rect.unit (s := S3) ![1] S1.size inb_S3_S1_1)).squeeze S_ squeezes_S1_S_).sem = (7 : DmaSem sig) := by decide
theorem ag_send2 : ((cc0_scratch8.slice (Rect.unit (s := S3) ![2] S1.size inb_S3_S1_2)).squeeze S_ squeezes_S1_S_).sem = (8 : DmaSem sig) := by decide
theorem ag_recv0 : ((cc0_scratch9.slice (Rect.unit (s := S3) ![0] S1.size inb_S3_S1_0)).squeeze S_ squeezes_S1_S_).sem = (9 : DmaSem sig) := by decide
theorem ag_recv1 : ((cc0_scratch9.slice (Rect.unit (s := S3) ![1] S1.size inb_S3_S1_1)).squeeze S_ squeezes_S1_S_).sem = (10 : DmaSem sig) := by decide
theorem ag_recv2 : ((cc0_scratch9.slice (Rect.unit (s := S3) ![2] S1.size inb_S3_S1_2)).squeeze S_ squeezes_S1_S_).sem = (11 : DmaSem sig) := by decide
theorem rs_send0 : ((cc0_scratch10.slice (Rect.unit (s := S3) ![0] S1.size inb_S3_S1_0)).squeeze S_ squeezes_S1_S_).sem = (12 : DmaSem sig) := by decide
theorem rs_send1 : ((cc0_scratch10.slice (Rect.unit (s := S3) ![1] S1.size inb_S3_S1_1)).squeeze S_ squeezes_S1_S_).sem = (13 : DmaSem sig) := by decide
theorem rs_send2 : ((cc0_scratch10.slice (Rect.unit (s := S3) ![2] S1.size inb_S3_S1_2)).squeeze S_ squeezes_S1_S_).sem = (14 : DmaSem sig) := by decide
theorem rs_recv0 : ((cc0_scratch11.slice (Rect.unit (s := S3) ![0] S1.size inb_S3_S1_0)).squeeze S_ squeezes_S1_S_).sem = (15 : DmaSem sig) := by decide
theorem rs_recv1 : ((cc0_scratch11.slice (Rect.unit (s := S3) ![1] S1.size inb_S3_S1_1)).squeeze S_ squeezes_S1_S_).sem = (16 : DmaSem sig) := by decide
theorem rs_recv2 : ((cc0_scratch11.slice (Rect.unit (s := S3) ![2] S1.size inb_S3_S1_2)).squeeze S_ squeezes_S1_S_).sem = (17 : DmaSem sig) := by decide

/-! ## Contents -/

/-- A chunk as the partial products travel, and as a slot of three reads it. -/
abbrev Chunk (F : FTy → Type) : Type := S512x1024.Idx → Elt F .bf16
abbrev Rows (F : FTy → Type) : Type := S2048x1024.Idx → Elt F .bf16

/-- The chunk as the one slot of a buffer of one slot. -/
def unsq (X : Chunk F) : S1x512x1024.Idx → Elt F .bf16 :=
  fun j => X ((Shape.reshapeEquiv squeezes_S1x512x1024_S512x1024.numel_eq).symm j)

/-- The argument blocks of device `c`, as staged. -/
def xin (c : Dev nD) : S512x1024.Idx → Elt F .f32 := (win0_0.blk (0 : Fin 1)).view.read (Elt F) ((s₀ m ρ).mem ((c : Thread nD τ).loc main_arg0))
def wqIn (c : Dev nD) : S1024x1024.Idx → Elt F .f32 := (win0_1.blk (0 : Fin 1)).view.read (Elt F) ((s₀ m ρ).mem ((c : Thread nD τ).loc main_arg1))
def woIn (c : Dev nD) : S1024x1024.Idx → Elt F .f32 := (win0_2.blk (0 : Fin 1)).view.read (Elt F) ((s₀ m ρ).mem ((c : Thread nD τ).loc main_arg2))
def wkIn (c : Dev nD) : S1024x1024.Idx → Elt F .f32 := (win0_3.blk (0 : Fin 1)).view.read (Elt F) ((s₀ m ρ).mem ((c : Thread nD τ).loc main_arg3))
def wvIn (c : Dev nD) : S1024x1024.Idx → Elt F .f32 := (win0_4.blk (0 : Fin 1)).view.read (Elt F) ((s₀ m ρ).mem ((c : Thread nD τ).loc main_arg4))

/-- Chunk `j` of the rows, as it travels. -/
def xch (j : Dev nD) : Chunk F := k0_pay1 (xin m ρ j)
def wq (c : Dev nD) : FVec F S1024x1024 .bf16 := k0_pay2 (wqIn m ρ c)
def wk (c : Dev nD) : FVec F S1024x1024 .bf16 := k0_pay3 (wkIn m ρ c)
def wv (c : Dev nD) : FVec F S1024x1024 .bf16 := k0_pay4 (wvIn m ρ c)
def wo (c : Dev nD) : FVec F S1024x1024 .bf16 := k0_pay18 (woIn m ρ c)

/-- Chunk `j` times a device's block of the weights, as the kernel stores it. -/
def proj (w : FVec F S1024x1024 .bf16) (x : Chunk F) : Chunk F := k0_pay5 w x

set_option backward.proofsInPublic true in
/-- The chunk row `r` lies in, and the row's place in it. -/
def chunkOf (r : Fin 2048) : Dev nD := ⟨r.val / 512, by have := r.isLt; show r.val / 512 < 4; omega⟩
set_option backward.proofsInPublic true in
def rowOf (r : Fin 2048) : Fin 512 := ⟨r.val % 512, Nat.mod_lt _ (by decide)⟩

/-- The four chunks as one buffer of rows. -/
def stack (X : Dev nD → Chunk F) : Rows F := fun i => X (chunkOf (i 0)) (fun a => match a with | ⟨0, _⟩ => rowOf (i 0) | ⟨1, _⟩ => i 1)

def qRows (c : Dev nD) : Rows F := stack fun j => proj (wq m ρ c) (xch m ρ j)
def kRows (c : Dev nD) : Rows F := stack fun j => proj (wk m ρ c) (xch m ρ j)
def vRows (c : Dev nD) : Rows F := stack fun j => proj (wv m ρ c) (xch m ρ j)

theorem colsLo_inb : ∀ (h : Fin 8) (a : Fin 2), (![0, 128 * h.val] : Fin 2 → ℕ) a + S1024x128.size a ≤ S2048x1024.size a := by decide +kernel
theorem colsHi_inb : ∀ (h : Fin 8) (a : Fin 2), (![1024, 128 * h.val] : Fin 2 → ℕ) a + S1024x128.size a ≤ S2048x1024.size a := by decide +kernel

/-- The columns of head `h`, over the first and over the last 1024 rows. -/
abbrev colsLo (h : Fin 8) : Rect S2048x1024 := Rect.unit (s := S2048x1024) ![0, 128 * h.val] S1024x128.size (colsLo_inb h)
abbrev colsHi (h : Fin 8) : Rect S2048x1024 := Rect.unit (s := S2048x1024) ![1024, 128 * h.val] S1024x128.size (colsHi_inb h)

/-- One head's attention for one chunk of queries: the two halves of the keys, then the quotient. -/
def headOf (q : Vec F S512x128 .bf16) (k₀ v₀ k₁ v₁ : Vec F S1024x128 .bf16) : FVec F S512x128 .bf16 :=
  k0_pay23 (k0_pay20 q k₀) (k0_pay21 q k₀ v₀) (k0_pay22 q k₁) v₁

def headAt (fq fk fv : Rows F) (j : Dev nD) (h : Fin 8) : FVec F S512x128 .bf16 :=
  headOf (fun i => fq ((rowsHead j h).emb i)) (fun i => fk ((colsLo h).emb i)) (fun i => fv ((colsLo h).emb i))
    (fun i => fk ((colsHi h).emb i)) (fun i => fv ((colsHi h).emb i))

set_option backward.proofsInPublic true in
/-- The head column `k` lies in, and the column's place in it. -/
def headNo (k : Fin 1024) : Fin 8 := ⟨k.val / 128, by have := k.isLt; omega⟩
set_option backward.proofsInPublic true in
def colOf (k : Fin 1024) : Fin 128 := ⟨k.val % 128, Nat.mod_lt _ (by decide)⟩

/-- The eight heads beside one another. -/
def beside (X : Fin 8 → FVec F S512x128 .bf16) : Chunk F :=
  fun i => X (headNo (i 1)) (fun a => match a with | ⟨0, _⟩ => i 0 | ⟨1, _⟩ => colOf (i 1))

/-- Device `c`'s heads' attention for chunk `j`. -/
def attn (c j : Dev nD) : Chunk F := beside (headAt (qRows m ρ c) (kRows m ρ c) (vRows m ρ c) j)

/-- What the three transfers of partial products carry: the partial product for the opposite chunk, that for the next
    chunk added to what came from the left, and that for the previous chunk. -/
def part0 (c : Dev nD) : Chunk F := k0_pay115 (wo m ρ c) (attn m ρ c (opp c))
def part1 (c : Dev nD) : Chunk F := k0_pay84 (wo m ρ c) (attn m ρ c (nxt c)) (unsq (part0 m ρ (prv c)))
def part2 (c : Dev nD) : Chunk F := k0_pay115 (wo m ρ c) (attn m ρ c (prv c))

/-- The kernel's result on device `c`. -/
def outAt (c : Dev nD) : S512x1024.Idx → Elt F .f32 :=
  k0_pay145 (k0_pay144 (wo m ρ c) (attn m ρ c c)) (unsq (part1 m ρ (prv c))) (unsq (part2 m ρ (nxt c)))

end Cert.Ring
-- ==== Proof.Sched.lean ====
/-
The schedule of the ring's cells: who pays each cell, how much, and what the payment hands over; what each device owes at
launch; the levels that order the waits; and the rules for a signal, a transfer and a wait at these cells.
-/
module

public import proofs.«01_k».proof.Proof.Common

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Who holds what -/

/-- Device `c` owns a chunk-shaped memref, at a share, reading `X`; -/
abbrev has (c : Dev nD) (M : Memref sig .tc .vmem S512x1024 .bf16) (q : PosShare TreeShare) (X : Chunk F) : sProp 𝕄 :=
  owns (Ix := Unit) (Name := ℕ) (U := UU) (Lvl := ℕ) (c : Thread nD τ) M q X
/-- outright, reading anything. -/
abbrev hasAny (c : Dev nD) (M : Memref sig .tc .vmem S512x1024 .bf16) : sProp 𝕄 := iprop(∃ X, has (F := F) c M fullShare X)

/-- The shares of the kept chunk that the two transfers of it borrow, and the share kept beside them. -/
abbrev shR : PosShare TreeShare := fullShare.left
abbrev shL : PosShare TreeShare := fullShare.right.left
abbrev shK : PosShare TreeShare := fullShare.right.right

/-- What one unit on device `c`'s barrier cell hands it. From the device after it (`false`): the rows of the chunks `c`
    sends there, and the first two slots; from the device before it (`true`): the rows of chunk `c` and the last slot. -/
def barPay (c : Dev nD) (d : Bool) : sProp 𝕄 :=
  if d then iprop(hasAny (prv c) (piece xcM c) ∗ hasAny (prv c) slot2)
  else iprop(hasAny (nxt c) (piece xcM c) ∗ hasAny (nxt c) (piece xcM (prv c)) ∗ hasAny (nxt c) slot0 ∗ hasAny (nxt c) slot1)

/-- What the transfer's completion on device `c`'s semaphore hands it. -/
def dmaPay (c : Dev nD) : ℕ → sProp 𝕄
  | 6 => has c (piece xcM c) shR (xch m ρ c)
  | 7 => has c (piece xcM c) shL (xch m ρ c)
  | 8 => has c (piece xcM (prv c)) fullShare.left (xch m ρ (prv c))
  | 9 => has c (piece xcM (prv c)) fullShare (xch m ρ (prv c))
  | 10 => has c (piece xcM (nxt c)) fullShare (xch m ρ (nxt c))
  | 11 => has c (piece xcM (opp c)) fullShare (xch m ρ (opp c))
  | 12 => has c paM fullShare (part0 m ρ c)
  | 13 => has c paM fullShare (part1 m ρ c)
  | 14 => has c pbM fullShare (part2 m ρ c)
  | 15 => has c slot0 fullShare (part0 m ρ (prv c))
  | 16 => has c slot1 fullShare (part1 m ρ (prv c))
  | 17 => has c slot2 fullShare (part2 m ρ (nxt c))
  | _ => iprop(emp)

instance barPay_storable (c : Dev nD) (d : Bool) : BI.Storable (upEmb : UEmb _ 𝕄) (barPay (F := F) c d) := by
  unfold barPay hasAny; split <;> infer_instance

instance dmaPay_storable (c : Dev nD) (n : ℕ) : BI.Storable (upEmb : UEmb _ 𝕄) (dmaPay m ρ c n) := by
  unfold dmaPay; split <;> infer_instance

/-! ## The schedule -/

def dutiesOf : SemLoc sig → Finset Bool
  | .reg s => if s = barS then Finset.univ else ∅
  | .dma q => if 6 ≤ q.val then {false} else ∅

/-- One round: a barrier cell has two duties of one unit, a transfer's cell one duty of the chunk's credit. -/
def ringRd : Rounds.Schedule (GSem nD τ sig) Bool 𝕄 where
  duties g r := if r = 0 ∧ g.1.2 = .tc then dutiesOf g.2 else ∅
  unitless _ := False
  amount g _ _ := match g.2 with
    | .reg _ => 1
    | .dma _ => N
  payload g _ d := match g.2 with
    | .reg _ => barPay g.1.1 d
    | .dma q => dmaPay m ρ g.1.1 q.val
  amount_pos g _ _ _ := by
    cases g.2 with
    | reg _ => exact Nat.one_pos
    | dma _ => exact N_pos

instance ringRd_payload_storable (g : GSem nD τ sig) (r : ℕ) (d : Bool) :
    BI.Storable (upEmb : UEmb _ 𝕄) ((ringRd (F := F) m ρ).payload g r d) := by
  obtain ⟨⟨c, κ⟩, s⟩ := g
  cases s with
  | reg _ => exact barPay_storable c d
  | dma q => exact dmaPay_storable m ρ c q.val

section Sched
variable (c : Dev nD)

theorem duties_bar : (ringRd (F := F) m ρ).duties (barCell c) 0 = Finset.univ := rfl
theorem duties_dma (q : DmaSem sig) (hq : 6 ≤ q.val) : (ringRd (F := F) m ρ).duties (dmaCell c q) 0 = {false} := by
  show (if 0 = 0 ∧ (c : Thread nD τ).2 = .tc then dutiesOf (.dma q) else ∅) = _
  rw [if_pos ⟨rfl, rfl⟩]; exact if_pos hq
theorem duties_later (g : GSem nD τ sig) : ∀ r, 1 ≤ r → (ringRd (F := F) m ρ).duties g r = ∅ :=
  fun r hr => if_neg fun h => by omega

theorem amount_bar (d : Bool) : (ringRd (F := F) m ρ).amount (barCell c) 0 d = 1 := rfl
theorem amount_dma (q : DmaSem sig) (d : Bool) : (ringRd (F := F) m ρ).amount (dmaCell c q) 0 d = N := rfl

theorem expect_bar : (ringRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_dma (q : DmaSem sig) (hq : 6 ≤ q.val) : (ringRd (F := F) m ρ).expect (dmaCell c q) 0 = N := by
  unfold Schedule.expect Schedule.amountOf; rw [duties_dma m ρ c q hq, Finset.sum_singleton, amount_dma]

theorem payload_bar (d : Bool) : (ringRd (F := F) m ρ).payload (barCell c) 0 d = barPay c d := rfl
theorem payload_dma (q : DmaSem sig) (d : Bool) : (ringRd (F := F) m ρ).payload (dmaCell c q) 0 d = dmaPay m ρ c q.val := rfl

theorem rest_bar : bigSep ((ringRd (F := F) m ρ).duties (barCell c) 0 \ ∅) (fun d => (ringRd (F := F) m ρ).payload (barCell c) 0 d)
    = iprop(barPay c false ∗ barPay c true) := by
  rw [Finset.sdiff_empty, duties_bar, bigSep_univ_eq_bigSepL [false, true] (by decide) (by decide), bigSepL_cons_cons, bigSepL_singleton]
  rfl
theorem rest_dma (q : DmaSem sig) (hq : 6 ≤ q.val) :
    bigSep ((ringRd (F := F) m ρ).duties (dmaCell c q) 0 \ ∅) (fun d => (ringRd (F := F) m ρ).payload (dmaCell c q) 0 d) = dmaPay m ρ c q.val := by
  rw [Finset.sdiff_empty, duties_dma m ρ c q hq, bigSep_singleton, payload_dma]

end Sched

/-! ## What each device owes at launch, and the levels -/

abbrev owe (c : Dev nD) (q : DmaSem sig) : CellTallies nD τ sig Unit := tallyAt (dmaCell c q) () N

/-- A device's debts in the order it pays them, the first paid last in the sum. -/
def O₁ (c : Dev nD) : CellTallies nD τ sig Unit := 0 + owe (prv c) 17
def O₂ (c : Dev nD) : CellTallies nD τ sig Unit := O₁ c + owe (nxt c) 16
def O₃ (c : Dev nD) : CellTallies nD τ sig Unit := O₂ c + owe (nxt c) 15
def O₄ (c : Dev nD) : CellTallies nD τ sig Unit := O₃ c + owe (nxt c) 11
def O₅ (c : Dev nD) : CellTallies nD τ sig Unit := O₄ c + owe (prv c) 10
def O₆ (c : Dev nD) : CellTallies nD τ sig Unit := O₅ c + owe (nxt c) 9
def O₇ (c : Dev nD) : CellTallies nD τ sig Unit := O₆ c + tallyAt (barCell (nxt c)) () 1
def O₀ (c : Dev nD) : CellTallies nD τ sig Unit := O₇ c + tallyAt (barCell (prv c)) () 1

def L (g : GSem nD τ sig) : Finset Unit := if g.1.2 = .tc then {()} else ∅

/-- The staging and send cells at 0, the barrier cells at 1, the receive cells above them in the order of the waits. -/
def lv (g : GSem nD τ sig) (_ : Unit) : ℕ := match g.2 with
  | .reg _ => 1
  | .dma q => match q.val with
    | 9 => 2 | 10 => 2 | 11 => 3 | 15 => 4 | 16 => 5 | 17 => 5
    | _ => 0

theorem L_of_ne (g : GSem nD τ sig) (h : g.1.2 ≠ .tc) : L g = ∅ := if_neg h
theorem L_tc (c : Dev nD) (sm : SemLoc sig) : L ((c : Thread nD τ), sm) = {()} := if_pos rfl

/-- Every cell something is owed on is a TensorCore's, above level `n`. -/
def Above (n : ℕ) (O : CellTallies nD τ sig Unit) : Prop := ∀ g u, 0 < O g u → u ∈ L g ∧ n < lv g u

theorem Above.zero (n : ℕ) : Above n 0 := fun g u h => absurd h (Nat.lt_irrefl 0)
theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by rw [h0, Nat.zero_add] at hg; exact hg)
  · exact h g u h0
theorem Above.tally {n k : ℕ} (c : Dev nD) (s : SemLoc sig) (h : n < lv ((c : Thread nD τ), s) ()) : Above n (tallyAt ((c : Thread nD τ), s) () k) := fun g u hg => by
  rw [tallyAt_apply] at hg
  by_cases e : g = ((c : Thread nD τ), s) ∧ u = ()
  · rw [e.1, L_tc]; exact ⟨Finset.mem_singleton_self _, h⟩
  · rw [if_neg e] at hg; exact absurd hg (Nat.lt_irrefl 0)

theorem above₁ (c : Dev nD) {n : ℕ} (h : n ≤ 4) : Above n (O₁ c) := (Above.zero n).add (.tally _ _ (show n < 5 by omega))
theorem above₂ (c : Dev nD) {n : ℕ} (h : n ≤ 4) : Above n (O₂ c) := (above₁ c h).add (.tally _ _ (show n < 5 by omega))
theorem above₃ (c : Dev nD) {n : ℕ} (h : n ≤ 3) : Above n (O₃ c) := (above₂ c (by omega)).add (.tally _ _ (show n < 4 by omega))
theorem above₄ (c : Dev nD) {n : ℕ} (h : n ≤ 2) : Above n (O₄ c) := (above₃ c (by omega)).add (.tally _ _ (show n < 3 by omega))
theorem above₅ (c : Dev nD) {n : ℕ} (h : n ≤ 1) : Above n (O₅ c) := (above₄ c (by omega)).add (.tally _ _ (show n < 2 by omega))
theorem above₆ (c : Dev nD) {n : ℕ} (h : n ≤ 1) : Above n (O₆ c) := (above₅ c h).add (.tally _ _ (show n < 2 by omega))
theorem above₀ (c : Dev nD) : Above 0 (O₀ c) :=
  ((above₆ c (by omega)).add (.tally _ _ (show 0 < 1 by omega))).add (.tally _ _ (show 0 < 1 by omega))

/-- A cell at or below level `n` may be waited on under debts above it. -/
theorem mayWait (c : Dev nD) (s : SemLoc sig) (n : ℕ) (hs : lv ((c : Thread nD τ), s) () ≤ n) {O : CellTallies nD τ sig Unit} (hO : Above n O) :
    (levAts L lv : sProp 𝕄) ⊢ MayWait (c : Thread nD τ) s () O :=
  MayOwe.of_cut (L := L) (lev := lv) n (fun p hp => by rw [Finset.mem_singleton.mp hp, L_tc]; exact Finset.mem_singleton_self _)
    (fun g u hg => (hO g u hg).1) (fun p hp => by rw [Finset.mem_singleton.mp hp]; exact hs) (fun g u hg => (hO g u hg).2)

/-! ## The records every device reads -/

/-- The ring's cells of a device: the barrier's, then the twelve transfers'. -/
def csem (k : Fin 13) : SemLoc sig := if h : k.val = 0 then .reg barS else .dma ⟨5 + k.val, by have := k.isLt; show 5 + k.val < 18; omega⟩
def kcell (p : Dev nD × Fin 13) : GSem nD τ sig := ((p.1 : Thread nD τ), csem p.2)

/-- Every cell's invariant, under some name, and that its round is open. -/
def Recs : sProp 𝕄 := iprop(∃ K : Dev nD × Fin 13 → ℕ, bigSep Finset.univ fun p => iprop(cellInv ER (ringRd m ρ) (K p) (kcell p) ∗ reached ER (kcell p) 0))

instance Recs_persistent : BI.Persistent (Recs m ρ) := by unfold Recs; infer_instance

theorem recs_at (p : Dev nD × Fin 13) {g : GSem nD τ sig} (hg : kcell p = g) :
    Recs m ρ ⊢ iprop(∃ κ, cellInv ER (ringRd m ρ) κ g ∗ reached ER g 0) := by
  subst hg
  unfold Recs
  iintro ⟨%K, H⟩
  iexists K p
  iapply (show (bigSep Finset.univ fun p => iprop(cellInv ER (ringRd m ρ) (K p) (kcell p) ∗ reached ER (kcell p) 0))
    ⊢ iprop(cellInv ER (ringRd m ρ) (K p) (kcell p) ∗ reached ER (kcell p) 0) from bigSep_elim (Finset.mem_univ p))
  iexact H

theorem recs_bar (c : Dev nD) : Recs m ρ ⊢ iprop(∃ κ, cellInv ER (ringRd m ρ) κ (barCell c) ∗ reached ER (barCell c) 0) :=
  recs_at m ρ (c, 0) rfl
theorem recs_dma (c : Dev nD) (q : DmaSem sig) (hq : 6 ≤ q.val) :
    Recs m ρ ⊢ iprop(∃ κ, cellInv ER (ringRd m ρ) κ (dmaCell c q) ∗ reached ER (dmaCell c q) 0) :=
  recs_at m ρ (c, ⟨q.val - 5, by have := q.isLt; have : q.val < 18 := q.isLt; omega⟩) (by
    have h18 : q.val < 18 := q.isLt
    show ((c : Thread nD τ), csem _) = _
    unfold csem
    rw [dif_neg (by show ¬ q.val - 5 = 0; omega)]
    congr 2
    exact Fin.ext (show 5 + (q.val - 5) = q.val by omega))

/-! ## The rules at the ring's cells -/

section Rules
variable (c : Dev nD)

/-- A signal to device `p`'s barrier cell. -/
theorem signal_rule {α : Type} {Q : α → sProp 𝕄} {k : PUnit → Prog (TpuEff nD τ sig (Elt F) Λ₀ .tc) α}
    (p n : Dev nD) (hn : n = p) (d : Bool) (O : CellTallies nD τ sig Unit) (W : Waits sig Unit) :
    iprop(Recs m ρ ∗ owes (c : Thread nD τ) (O + tallyAt (barCell p) () 1) W ∗ dutyTok ER (barCell p) 0 d ∗ barPay p d)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS 1) k) Q) := by
  subst hn
  iintro ⟨#HR, HO, Ht, Hp⟩
  ihave HR' := (recs_bar m ρ n) $$ HR
  icases HR' with ⟨%κ, #HI, #Hr⟩
  iapply (Rounds.wp_signal 𝒱₀ ER (ringRd m ρ) (c : Thread nD τ) none (dst := (n : Thread nD τ)) (κ := κ) (d := d)
    (by rw [duties_bar]; exact Finset.mem_univ _) (amount_bar m ρ n d) () O rfl (W := W))
  isplitr; · iexact HI
  isplitl [HO]; · iexact HO
  isplitl [Ht]; · iexact Ht
  isplitl [Hp]; · rw [payload_bar]; iexact Hp
  iexact Hr

/-- A transfer to device `p`, lending a share of the source and rewriting the destination `p` handed over. -/
theorem send_rule {α : Type} {Q : α → sProp 𝕄} {k : PUnit → Prog (TpuEff nD τ sig (Elt F) Λ₀ .tc) α}
    (p n : Dev nD) (hn : n = p) (src dst src' dst' : Memref sig .tc .vmem S512x1024 .bf16) (es : src = src') (ed : dst = dst') (sS sR : DmaSem sig) (qS qR : DmaSem sig)
    (eS : sS = qS) (eR : sR = qR) (hS : 6 ≤ qS.val) (hR : 6 ≤ qR.val)
    (hN : dst.view.dmaCredit = N) {hsc : (dst : Memref sig (Dev.tc n : Thread nD τ).2.kind .vmem S512x1024 .bf16).view.ref.isScScratch = false}
    {hsrc : src.view.WordExact} {hdst : dst.view.WordExact}
    {hsem : DmaTarget.Typed .vmem (.dma sR) (.remote (Dev.tc n : Thread nD τ) dst (.dma sS) hsc)}
    (q : PosShare TreeShare) (X : Chunk F) (O : CellTallies nD τ sig Unit) (W : Waits sig Unit)
    (hpS : has c src' q X = dmaPay m ρ c qS.val) (hpR : has p dst' fullShare X = dmaPay m ρ p qR.val) :
    iprop(Recs m ρ ∗ has c src' q X ∗ hasAny p dst' ∗ owes (c : Thread nD τ) (O + owe p qR) W
        ∗ dutyTok ER (dmaCell c qS) 0 false ∗ dutyTok ER (dmaCell p qR) 0 false)
      ⊢ iprop(((cred (tallyAt (dmaCell c qS) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn eS eR es ed
  iintro ⟨#HR, Hs, ⟨%Y, Hd⟩, HO, HtS, HtR⟩
  ihave HRs := (recs_dma m ρ c sS hS) $$ HR
  icases HRs with ⟨%κ₁, #HI₁, #Hr₁⟩
  ihave HRr := (recs_dma m ρ n sR hR) $$ HR
  icases HRr with ⟨%κ₂, #HI₂, #Hr₂⟩
  ihave Hs' := (show has c src q X ⊢ iprop(∃ f, ⌜src.view.read (Elt F) f = X⌝ ∗ (src.view.loc (c : Thread nD τ) ↦[src.view.set]{q} f)) from .rfl) $$ Hs
  icases Hs' with ⟨%fs, %hfs, Hs⟩
  ihave Hd' := (show has n dst fullShare Y ⊢ iprop(∃ f, ⌜dst.view.read (Elt F) f = Y⌝ ∗ (dst.view.loc (n : Thread nD τ) ↦[dst.view.set]{fullShare} f)) from .rfl) $$ Hd
  icases Hd' with ⟨%fd, -, Hd⟩
  subst hfs
  iapply (Rounds.wp_send_pointsTo 𝒱₀ ER (ringRd m ρ) (c : Thread nD τ) none (κ₁ := κ₁) (κ₂ := κ₂)
    (r₁ := 0) (r₂ := 0) (d₁ := false) (d₂ := false) (fs := fs) (fd := fd)
    (by rw [duties_dma m ρ c sS hS]; exact Finset.mem_singleton_self _) (by rw [duties_dma m ρ n sR hR]; exact Finset.mem_singleton_self _)
    () () N (show dst.view.amount (.dma sR) = N from hN) (amount_dma m ρ c sS false) (amount_dma m ρ n sR false) O rfl (W := W)
    (by rw [payload_dma, ← hpS]; exact owns_intro (c : Thread nD τ) src q fs)
    (by
      rw [payload_dma, ← hpR]
      refine (owns_intro (n : Thread nD τ) dst fullShare _).trans (Entails.of_eq ?_)
      rw [View.read_write_univ]))
  isplitr; · iexact HI₁
  isplitr; · iexact HI₂
  isplitl [Hs]; · iexact Hs
  isplitl [Hd]; · iexact Hd
  isplitl [HO]; · iexact HO
  isplitl [HtS]; · iexact HtS
  isplitr; · iexact Hr₁
  isplitl [HtR]; · iexact HtR
  iexact Hr₂

/-- The wait for both units on the barrier cell; the cell is closed. -/
theorem wait_bar_rule {α : Type} {Q : α → sProp 𝕄} {k : PUnit → Prog (TpuEff nD τ sig (Elt F) Λ₀ .tc) α}
    (O : CellTallies nD τ sig Unit) (W : Waits sig Unit) (hO : Above 1 O) :
    iprop(Recs m ρ ∗ levAts L lv ∗ cred (tallyAt (barCell c) () 2) ∗ owes (c : Thread nD τ) O W ∗ atPos ER (barCell c) 0 ∅ 0)
      ⊢ iprop((((∃ W, owes (c : Thread nD τ) O W) ∗ semVal (barCell c) 0 ∗ barPay c false ∗ barPay c true)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 2) k) Q) := by
  iintro ⟨#HR, #Hlev, Hc, HO, Hat⟩ Hk
  ihave HR' := (recs_bar m ρ c) $$ HR
  icases HR' with ⟨%κ, #HI, -⟩
  iapply (Rounds.wp_wait_rest_token 𝒱₀ ER (ringRd m ρ) (c : Thread nD τ) none (κ := κ)
      (wpE_semWait_eq 𝒱₀ (c : Thread nD τ) none Set.univ) (Set.mem_univ _) () (O := O) (W := W) (R := 0) (m := 0) (T := ∅)
      (by rw [expect_bar])) $$ [Hc HO Hat]
  · isplitr; · iexact HI
    isplitl [Hc]; · iexact Hc
    isplitl [HO]; · iexact HO
    isplitr; · iapply (mayWait c (.reg barS) 1 (le_refl 1) hO); iexact Hlev
    iexact Hat
  iintro ⟨HO, Hat, -, Hpay⟩
  ihave Hp := (Entails.of_eq (rest_bar m ρ c)) $$ Hpay
  icases Hp with ⟨Hp₁, Hp₂⟩
  imod (Rounds.cell_close ER (ringRd m ρ) (Set.mem_univ κ) (fun h => h) (R := 0 + 1) (duties_later m ρ (barCell c))) $$ [Hat] with Hz
  · isplitr; · iexact HI
    iexact Hat
  iapply Hk
  isplitl [HO]; · iexists _; iexact HO
  isplitl [Hz]; · iexact Hz
  isplitl [Hp₁] <;> iassumption

/-- The wait for a transfer on one of the twelve cells; the cell is closed. -/
theorem wait_rule {α : Type} {Q : α → sProp 𝕄} {k : PUnit → Prog (TpuEff nD τ sig (Elt F) Λ₀ .tc) α}
    (src dst : Memref sig .tc .vmem S512x1024 .bf16) (s q : DmaSem sig) (e : s = q) (hq : 6 ≤ q.val) (hN : dst.view.dmaCredit = N)
    {hsrc : src.view.WordExact} {hdst : dst.view.WordExact} (n : ℕ) (hn : lv (dmaCell c q) () ≤ n)
    (O : CellTallies nD τ sig Unit) (W : Waits sig Unit) (hO : Above n O) (P : sProp 𝕄) (hP : dmaPay m ρ c q.val = P) :
    iprop(Recs m ρ ∗ levAts L lv ∗ cred (tallyAt (dmaCell c q) () N) ∗ owes (c : Thread nD τ) O W ∗ atPos ER (dmaCell c q) 0 ∅ 0)
      ⊢ iprop((((∃ W, owes (c : Thread nD τ) O W) ∗ semVal (dmaCell c q) 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) := by
  subst e hP
  iintro ⟨#HR, #Hlev, Hc, HO, Hat⟩ Hk
  ihave HR' := (recs_dma m ρ c s hq) $$ HR
  icases HR' with ⟨%κ, #HI, -⟩
  iapply (Rounds.wp_wait_rest_token 𝒱₀ ER (ringRd m ρ) (c : Thread nD τ) none (κ := κ)
      (wpE_waitDma2_eq 𝒱₀ (c : Thread nD τ) none Set.univ) (Set.mem_univ _) () (O := O) (W := W) (R := 0) (m := 0) (T := ∅)
      (by rw [Nat.zero_add, expect_dma m ρ c s hq, hN])) $$ [Hc HO Hat]
  · isplitr; · iexact HI
    isplitl [Hc]; · rw [hN]; iexact Hc
    isplitl [HO]; · iexact HO
    isplitr; · iapply (mayWait c (.dma s) n hn hO); iexact Hlev
    iexact Hat
  iintro ⟨HO, Hat, -, Hpay⟩
  ihave Hp := (Entails.of_eq (rest_dma m ρ c s hq)) $$ Hpay
  imod (Rounds.cell_close ER (ringRd m ρ) (Set.mem_univ κ) (fun h => h) (R := 0 + 1) (duties_later m ρ (dmaCell c s))) $$ [Hat] with Hz
  · isplitr; · iexact HI
    iexact Hat
  iapply Hk
  isplitl [HO]; · iexists _; iexact HO
  isplitl [Hz] <;> iassumption

end Rules

end Cert.Ring
-- ==== Proof.Pieces.lean ====
/-
Loads, stores and joins of the row chunks: a buffer of all rows is held as four chunks while transfers write into it,
and whole once they have landed; the buffer the partial products land in is held as its three slots.
-/
module

public import proofs.«01_k».proof.Proof.Sched

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Loads and stores of one chunk -/

/-- A load of the rows of chunk `j`. -/
theorem load_piece {α : Type} {Q : α → sProp 𝕄} (c : Dev nD) {M : Memref sig .tc .vmem S2048x1024 .bf16} (j : Dev nD) {off : Fin 2 → ℕ} (h : off = offs j 0)
    {hin : ∀ a, off a + S512x1024.size a ≤ S2048x1024.size a}
    {hl : M.view.LoadsAt (Rect.unit (s := S2048x1024) off S512x1024.size hin).toLoadRect}
    {k : Chunk F → Prog (TpuEff nD τ sig (Elt F) Λ₀ .tc) α} (q : PosShare TreeShare) (X : Chunk F) :
    has c (piece M j) q X
      ⊢ iprop((has c (piece M j) q X -∗ wp frame (wpE (defs₀ (F := F)) 𝒱₀ (c : Thread nD τ) none) Set.univ (k X) Q)
          -∗ wp frame (wpE (defs₀ (F := F)) 𝒱₀ (c : Thread nD τ) none) Set.univ (.op (.load M (Rect.unit (s := S2048x1024) off S512x1024.size hin).toLoadRect hl) k) Q) := by
  subst h
  iintro H Hk
  ihave H' := (show has c (piece M j) q X ⊢ iprop(∃ f, ⌜(piece M j).view.read (Elt F) f = X⌝ ∗ ((piece M j).view.loc (c : Thread nD τ) ↦[(piece M j).view.set]{q} f)) from .rfl) $$ H
  icases H' with ⟨%f, %hf, H⟩
  iapply (wp_load_rect 𝒱₀ (c : Thread nD τ) none Set.univ (m := M) (r := rows j) (S := (piece M j).view.set) (q := q) (f := f) (Finset.Subset.refl _)) $$ H
  iintro H
  rw [show (M.access (rows j)).read (Elt F) f = X from hf]
  iapply Hk
  rw [← hf]
  iapply (owns_intro (c : Thread nD τ) (piece M j) q f)
  iexact H

/-- A store of the rows of chunk `j`. -/
theorem store_piece {α : Type} {Q : α → sProp 𝕄} (c : Dev nD) {M : Memref sig .tc .vmem S2048x1024 .bf16} (j : Dev nD) {off : Fin 2 → ℕ} (h : off = offs j 0)
    {hin : ∀ a, off a + S512x1024.size a ≤ S2048x1024.size a} (w : Chunk F)
    {hx : (M.access (Rect.unit (s := S2048x1024) off S512x1024.size hin)).Stores Finset.univ}
    {hm : (Finset.univ : Finset S512x1024.Idx) = Finset.univ ∨ ∀ a, (Rect.unit (s := S2048x1024) off S512x1024.size hin).stride a = 1}
    {k : PUnit → Prog (TpuEff nD τ sig (Elt F) Λ₀ .tc) α} (X : Chunk F) :
    has c (piece M j) fullShare X
      ⊢ iprop((has c (piece M j) fullShare w -∗ wp frame (wpE (defs₀ (F := F)) 𝒱₀ (c : Thread nD τ) none) Set.univ (k ⟨⟩) Q)
          -∗ wp frame (wpE (defs₀ (F := F)) 𝒱₀ (c : Thread nD τ) none) Set.univ (.op (.store M (Rect.unit (s := S2048x1024) off S512x1024.size hin) w Finset.univ hx hm) k) Q) := by
  subst h
  iintro H Hk
  ihave H' := (show has c (piece M j) fullShare X ⊢ iprop(∃ f, ⌜(piece M j).view.read (Elt F) f = X⌝ ∗ ((piece M j).view.loc (c : Thread nD τ) ↦[(piece M j).view.set]{fullShare} f)) from .rfl) $$ H
  icases H' with ⟨%f, -, H⟩
  iapply (wp_store 𝒱₀ (c : Thread nD τ) none Set.univ (m := M) (r := rows j) (S := (piece M j).view.set) (f := f) (Finset.Subset.refl _)) $$ H
  iintro H
  iapply Hk
  ihave H' := (owns_intro (c : Thread nD τ) (piece M j) fullShare ((M.access (rows j)).write (Elt F) f w Finset.univ)) $$ H
  rw [show (piece M j).view.read (Elt F) ((M.access (rows j)).write (Elt F) f w Finset.univ) = w from View.read_write_univ ..]
  iexact H'

/-- The rows a transfer or a wait names are a chunk's. -/
theorem piece_at {M : Memref sig .tc .vmem S2048x1024 .bf16} (j : Dev nD) {off : Fin 2 → ℕ} (h : off = offs j 0)
    {hin : ∀ a, off a + S512x1024.size a ≤ S2048x1024.size a}
    {hs : ∀ a, (Rect.unit (s := S2048x1024) off S512x1024.size hin).stride a = 1} :
    M.slice (Rect.unit (s := S2048x1024) off S512x1024.size hin) hs = piece M j := by
  subst h; rfl

/-! ## Loads of a whole buffer -/

theorem load_whole {α : Type} {Q : α → sProp 𝕄} (c : Dev nD) {s : Shape} {e : EltTy} {M : Memref sig .tc .vmem s e} {r : LoadRect s} {hl : M.view.LoadsAt r}
    {k : (r.shape.Idx → Elt F e) → Prog (TpuEff nD τ sig (Elt F) Λ₀ .tc) α} (f : M.view.ty.Contents (Elt F)) (X : r.shape.Idx → Elt F e)
    (hX : M.view.readAt (Elt F) r f = X) :
    (M.view.loc (c : Thread nD τ) ↦{fullShare} f : sProp 𝕄)
      ⊢ iprop(((M.view.loc (c : Thread nD τ) ↦{fullShare} f) -∗ wp frame (wpE (defs₀ (F := F)) 𝒱₀ (c : Thread nD τ) none) Set.univ (k X) Q)
          -∗ wp frame (wpE (defs₀ (F := F)) 𝒱₀ (c : Thread nD τ) none) Set.univ (.op (.load M r hl) k) Q) := by
  subst hX
  iintro H Hk
  iapply (wp_load 𝒱₀ (c : Thread nD τ) none Set.univ (m := M) (S := Finset.univ) (q := fullShare) (f := f) (Finset.subset_univ _)) $$ H
  iexact Hk

/-! ## Joining and splitting -/

instance elt_nonempty (e : EltTy) : Nonempty (Elt F e) := by
  cases e <;> first | exact ⟨(0 : BitVec _)⟩ | exact ⟨FloatOps.ofBits _ 0⟩

theorem rows_disjoint (t t' : Dev nD) (h : t ≠ t') : Disjoint (rows t).set (rows t').set := by
  have : t.val ≠ t'.val := fun e => h (Fin.ext e)
  refine Rect.unit_disjoint 0 ?_
  show 512 * t.val + 512 ≤ 512 * t'.val ∨ 512 * t'.val + 512 ≤ 512 * t.val
  omega

theorem rows_cover : (Finset.univ : Finset (Dev nD)).biUnion (fun t => (rows t).set) = Finset.univ := by
  refine Finset.eq_univ_iff_forall.mpr fun i => Finset.mem_biUnion.mpr ⟨chunkOf (i 0), Finset.mem_univ _, ?_⟩
  rw [Rect.mem_set_unit]
  intro a
  match a with
  | ⟨0, _⟩ =>
    show 512 * ((i 0).val / 512) ≤ (i 0).val ∧ (i 0).val < 512 * ((i 0).val / 512) + 512
    omega
  | ⟨1, _⟩ =>
    have h : (i 1).val < 1024 := (i 1).isLt
    show 128 * 0 ≤ (i 1).val ∧ (i 1).val < 128 * 0 + 1024
    omega

theorem stack_rows (X : Dev nD → Chunk F) (j : Dev nD) : (fun i => stack X ((rows j).emb i)) = X j := by
  funext i
  have h0 : ((rows j).emb i 0).val = 512 * j.val + (i 0).val := by
    rw [Rect.emb_apply]; show 512 * j.val + 1 * (i 0).val = _; omega
  have h1 : ((rows j).emb i 1).val = (i 1).val := by
    rw [Rect.emb_apply]; show 128 * 0 + 1 * (i 1).val = _; omega
  have hi : (i 0).val < 512 := (i 0).isLt
  unfold stack
  rw [show chunkOf ((rows j).emb i 0) = j from Fin.ext (by show ((rows j).emb i 0).val / 512 = _; omega)]
  congr 1
  funext a
  match a with
  | ⟨0, _⟩ => exact Fin.ext (by show ((rows j).emb i 0).val % 512 = (i 0).val; omega)
  | ⟨1, _⟩ => exact Fin.ext h1

/-- The four devices, each named from one of them. -/
theorem bigSep_around (c : Dev nD) (Φ : Dev nD → sProp 𝕄) :
    bigSep Finset.univ Φ = iprop(Φ c ∗ Φ (prv c) ∗ Φ (nxt c) ∗ Φ (opp c)) :=
  bigSep_univ_eq_bigSepL [c, prv c, nxt c, opp c] (by revert c; decide) (by revert c; decide) Φ

/-- A buffer of all rows is its four chunks, -/
theorem rows_split (c : Dev nD) (M : Memref sig .tc .vmem S2048x1024 .bf16) (X : Rows F) :
    (owns (c : Thread nD τ) M fullShare X : sProp 𝕄)
      ⊢ iprop(hasAny c (piece M c) ∗ hasAny c (piece M (prv c)) ∗ hasAny c (piece M (nxt c)) ∗ hasAny c (piece M (opp c))) := by
  have h := owns_rects (Ix := Unit) (Name := ℕ) (U := UU) (Lvl := ℕ) (c : Thread nD τ) M fullShare rows (fun _ _ => rfl) rows_disjoint rows_cover X
  rw [bigSep_around c] at h
  refine h.trans ?_
  iintro ⟨H₁, H₂, H₃, H₄⟩
  isplitl [H₁]; · iexists _; iexact H₁
  isplitl [H₂]; · iexists _; iexact H₂
  isplitl [H₃]; · iexists _; iexact H₃
  iexists _; iexact H₄

/-- and back, at the chunks' contents. -/
theorem rows_join (c : Dev nD) (M : Memref sig .tc .vmem S2048x1024 .bf16) (X : Dev nD → Chunk F) :
    iprop(has c (piece M c) fullShare (X c) ∗ has c (piece M (prv c)) fullShare (X (prv c)) ∗ has c (piece M (nxt c)) fullShare (X (nxt c))
        ∗ has c (piece M (opp c)) fullShare (X (opp c)))
      ⊢ (owns (c : Thread nD τ) M fullShare (stack X) : sProp 𝕄) := by
  have h := owns_of_rects (Ix := Unit) (Name := ℕ) (U := UU) (Lvl := ℕ) (c : Thread nD τ) M fullShare rows (fun _ _ => rfl) rows_disjoint rows_cover (stack X)
  rw [bigSep_around c] at h
  simp only [stack_rows] at h
  exact h

/-! ## The three slots -/

theorem slotR_inb : ∀ (t : Fin 3) (a : Fin 3), (![t.val, 0, 0] : Fin 3 → ℕ) a + S1x512x1024.size a ≤ S3x512x1024.size a := by decide
/-- Slot `t` of the buffer the partial products land in. -/
abbrev slotR (t : Fin 3) : Rect S3x512x1024 := Rect.unit (s := S3x512x1024) ![t.val, 0, 0] S1x512x1024.size (slotR_inb t)
abbrev slot (t : Fin 3) : Memref sig .tc .vmem S512x1024 .bf16 :=
  (rsM.slice (slotR t) (fun _ => rfl)).squeeze S512x1024 squeezes_S1x512x1024_S512x1024

/-- A slot holds the chunk as the one slot of a buffer of one. -/
theorem slot_eq (c : Dev nD) (t : Fin 3) (q : PosShare TreeShare) (X : Chunk F) :
    has c (slot t) q X = (owns (c : Thread nD τ) (rsM.slice (slotR t) (fun _ => rfl)) q (unsq X) : sProp 𝕄) := by
  have e (f : (rsM.slice (slotR t) (fun _ => rfl)).view.ty.Contents (Elt F)) :
      (slot t).view.read (Elt F) f = X ↔ (rsM.slice (slotR t) (fun _ => rfl)).view.read (Elt F) f = unsq X := by
    have hr : (slot t).view.read (Elt F) f = fun x => (rsM.slice (slotR t) (fun _ => rfl)).view.read (Elt F) f (Shape.reshapeEquiv squeezes_S1x512x1024_S512x1024.numel_eq x) := rfl
    constructor
    · intro h; funext j
      unfold unsq
      rw [← h, hr]; simp only [Equiv.apply_symm_apply]
    · intro h
      rw [hr, h]; funext x
      unfold unsq; rw [Equiv.symm_apply_apply]
  have hs : (slot t).view.set = (rsM.slice (slotR t) (fun _ => rfl)).view.set := View.set_reshape _ _
  have h₁ : (iprop(∃ f, ⌜(slot t).view.read (Elt F) f = X⌝ ∗ ((slot t).view.loc (c : Thread nD τ) ↦[(slot t).view.set]{q} f)) : sProp 𝕄)
      ⊢ iprop(∃ f, ⌜(rsM.slice (slotR t) (fun _ => rfl)).view.read (Elt F) f = unsq X⌝
        ∗ ((rsM.slice (slotR t) (fun _ => rfl)).view.loc (c : Thread nD τ) ↦[(rsM.slice (slotR t) (fun _ => rfl)).view.set]{q} f)) := by
    iintro ⟨%f, %hf, H⟩
    iexists f; isplitr; · ipureintro; exact (e f).mp hf
    rw [← hs]; iexact H
  have h₂ : (iprop(∃ f, ⌜(rsM.slice (slotR t) (fun _ => rfl)).view.read (Elt F) f = unsq X⌝
        ∗ ((rsM.slice (slotR t) (fun _ => rfl)).view.loc (c : Thread nD τ) ↦[(rsM.slice (slotR t) (fun _ => rfl)).view.set]{q} f)) : sProp 𝕄)
      ⊢ iprop(∃ f, ⌜(slot t).view.read (Elt F) f = X⌝ ∗ ((slot t).view.loc (c : Thread nD τ) ↦[(slot t).view.set]{q} f)) := by
    iintro ⟨%f, %hf, H⟩
    iexists f; isplitr; · ipureintro; exact (e f).mpr hf
    rw [hs]; iexact H
  exact BI.equiv_iff.mp ⟨h₁, h₂⟩

omit [FloatOps F] in
theorem bigSep_slots (Φ : Fin 3 → sProp 𝕄) : bigSep Finset.univ Φ = iprop(Φ 0 ∗ Φ 1 ∗ Φ 2) :=
  bigSep_univ_eq_bigSepL [0, 1, 2] (by decide) (by decide) Φ

/-- The place in its slot. -/
def inSlot (i : S3x512x1024.Idx) : S1x512x1024.Idx := fun a => match a with
  | ⟨0, _⟩ => (0 : Fin 1)
  | ⟨1, _⟩ => i 1
  | ⟨2, _⟩ => i 2

theorem slots_disjoint (t t' : Fin 3) (h : t ≠ t') : Disjoint (slotR t).set (slotR t').set := by
  have : t.val ≠ t'.val := fun e => h (Fin.ext e)
  refine Rect.unit_disjoint 0 ?_
  show t.val + 1 ≤ t'.val ∨ t'.val + 1 ≤ t.val
  omega

theorem slots_cover : (Finset.univ : Finset (Fin 3)).biUnion (fun t => (slotR t).set) = Finset.univ := by
  refine Finset.eq_univ_iff_forall.mpr fun i => Finset.mem_biUnion.mpr ⟨i 0, Finset.mem_univ _, ?_⟩
  rw [Rect.mem_set_unit]
  intro a
  match a with
  | ⟨0, _⟩ => show (i 0).val ≤ (i 0).val ∧ (i 0).val < (i 0).val + 1; omega
  | ⟨1, _⟩ => have h : (i 1).val < 512 := (i 1).isLt; show 0 ≤ (i 1).val ∧ (i 1).val < 0 + 512; omega
  | ⟨2, _⟩ => have h : (i 2).val < 1024 := (i 2).isLt; show 0 ≤ (i 2).val ∧ (i 2).val < 0 + 1024; omega

/-- The buffer is its three slots, -/
theorem slots_split (c : Dev nD) (X : S3x512x1024.Idx → Elt F .bf16) :
    (owns (c : Thread nD τ) rsM fullShare X : sProp 𝕄) ⊢ iprop(hasAny c slot0 ∗ hasAny c slot1 ∗ hasAny c slot2) := by
  have h := owns_rects (Ix := Unit) (Name := ℕ) (U := UU) (Lvl := ℕ) (c : Thread nD τ) rsM fullShare slotR (fun _ _ => rfl) slots_disjoint slots_cover X
  rw [bigSep_slots] at h
  have g (t : Fin 3) (Y : S1x512x1024.Idx → Elt F .bf16) :
      (owns (c : Thread nD τ) (rsM.slice (slotR t) (fun _ => rfl)) fullShare Y : sProp 𝕄) ⊢ hasAny c (slot t) := by
    iintro H
    iexists fun x => Y (Shape.reshapeEquiv squeezes_S1x512x1024_S512x1024.numel_eq x)
    rw [slot_eq]
    rw [show unsq (fun x => Y (Shape.reshapeEquiv squeezes_S1x512x1024_S512x1024.numel_eq x)) = Y from
      funext fun j => congrArg Y (Equiv.apply_symm_apply _ _)]
    iexact H
  refine h.trans ?_
  iintro ⟨H₀, H₁, H₂⟩
  isplitl [H₀]; · iapply (g 0 _); iexact H₀
  isplitl [H₁]; · iapply (g 1 _); iexact H₁
  iapply (g 2 _); iexact H₂

/-- and back. -/
theorem slots_join (c : Dev nD) (X : Fin 3 → Chunk F) :
    iprop(has c slot0 fullShare (X 0) ∗ has c slot1 fullShare (X 1) ∗ has c slot2 fullShare (X 2))
      ⊢ (iprop(∃ f, owns (c : Thread nD τ) rsM fullShare f) : sProp 𝕄) := by
  have h := owns_of_rects (Ix := Unit) (Name := ℕ) (U := UU) (Lvl := ℕ) (c : Thread nD τ) rsM fullShare slotR (fun _ _ => rfl) slots_disjoint slots_cover
    (fun i => unsq (X (i 0)) (inSlot i))
  rw [bigSep_slots] at h
  have g (t : Fin 3) : has c (slot t) fullShare (X t)
      ⊢ (owns (c : Thread nD τ) (rsM.slice (slotR t) (fun _ => rfl)) fullShare
          (fun j => unsq (X ((slotR t).emb j 0)) (inSlot ((slotR t).emb j))) : sProp 𝕄) := by
    rw [slot_eq]
    refine Entails.of_eq (congrArg _ (funext fun j => ?_))
    have h0 : (slotR t).emb j 0 = t := Fin.ext (by
      have : (j 0).val < 1 := (j 0).isLt
      rw [Rect.emb_apply]; show t.val + 1 * (j 0).val = _; omega)
    rw [h0]; congr 1; funext a
    match a with
    | ⟨0, _⟩ => exact Fin.ext (by have : (j 0).val < 1 := (j 0).isLt; show (j 0).val = 0; omega)
    | ⟨1, _⟩ => exact Fin.ext (by show (j 1).val = 0 + 1 * (j 1).val; omega)
    | ⟨2, _⟩ => exact Fin.ext (by show (j 2).val = 0 + 1 * (j 2).val; omega)
  iintro ⟨H₀, H₁, H₂⟩
  iexists _
  iapply h
  isplitl [H₀]; · iapply (g 0); iexact H₀
  isplitl [H₁]; · iapply (g 1); iexact H₁
  iapply (g 2); iexact H₂

/-- A load of a slot. -/
theorem load_slot {α : Type} {Q : α → sProp 𝕄} (c : Dev nD) (t : Fin 3) {off : Fin 3 → ℕ} (h : off = ![t.val, 0, 0])
    {hin : ∀ a, off a + S1x512x1024.size a ≤ S3x512x1024.size a}
    {hl : (rsM : Memref sig .tc .vmem S3x512x1024 .bf16).view.LoadsAt (Rect.unit (s := S3x512x1024) off S1x512x1024.size hin).toLoadRect}
    {k : (S1x512x1024.Idx → Elt F .bf16) → Prog (TpuEff nD τ sig (Elt F) Λ₀ .tc) α} (q : PosShare TreeShare) (X : Chunk F) :
    has c (slot t) q X
      ⊢ iprop((has c (slot t) q X -∗ wp frame (wpE (defs₀ (F := F)) 𝒱₀ (c : Thread nD τ) none) Set.univ (k (unsq X)) Q)
          -∗ wp frame (wpE (defs₀ (F := F)) 𝒱₀ (c : Thread nD τ) none) Set.univ (.op (.load rsM (Rect.unit (s := S3x512x1024) off S1x512x1024.size hin).toLoadRect hl) k) Q) := by
  subst h
  rw [slot_eq]
  iintro H Hk
  ihave H' := (show owns (c : Thread nD τ) (rsM.slice (slotR t) (fun _ => rfl)) q (unsq X) ⊢ (iprop(∃ f, ⌜(rsM.slice (slotR t) (fun _ => rfl)).view.read (Elt F) f = unsq X⌝
    ∗ ((rsM.slice (slotR t) (fun _ => rfl)).view.loc (c : Thread nD τ) ↦[(rsM.slice (slotR t) (fun _ => rfl)).view.set]{q} f)) : sProp 𝕄) from .rfl) $$ H
  icases H' with ⟨%f, %hf, H⟩
  iapply (wp_load_rect 𝒱₀ (c : Thread nD τ) none Set.univ (m := rsM) (r := slotR t) (S := (rsM.slice (slotR t) (fun _ => rfl)).view.set) (q := q) (f := f) (Finset.Subset.refl _)) $$ H
  iintro H
  rw [show (rsM.access (slotR t)).read (Elt F) f = unsq X from hf]
  iapply Hk
  rw [← hf]
  iapply (owns_intro (c : Thread nD τ) (rsM.slice (slotR t) (fun _ => rfl)) q f)
  iexact H

end Cert.Ring
-- ==== Proof.Stages.lean ====
/-
The kernel's body in five stages.
-/
module

public import proofs.«01_k».proof.Proof.Common

@[expose] public section

set_option maxRecDepth 65536

noncomputable section

namespace Cert.Ring

open Cert.KernelIdeal Cert.KernelIdeal.Gen
open Idealize.ShloMosaic Idealize.SL.Sem

variable {F : FTy → Type} [FloatOps F]

/-- The handshake, the three transfers of chunks and the projections, -/
def gatherProg {α : Type} (K : Dev nD → BitVec 32 → BitVec 32 → BitVec 32 → Prog (TpuEff nD τ sig (Elt F) Λ₀ .tc) α) :
    Prog (TpuEff nD τ sig (Elt F) Λ₀ .tc) α := do
  let ⟨d0, v2, v14, v25⟩ ← k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11
  let ⟨v41, v44, v47⟩ ← k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 d0 v2 v14 v25
  let ⟨v96, v98⟩ ← k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 d0 v2 v25 v41 v44 v47
  let ⟨v126, v127, v128, v131⟩ ← k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 d0 v2 v14 v25 v96 v98
  let ⟨v167, v169, v170⟩ ← k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 d0 v2 v41 v44 v47 v126 v127 v128 v131
  let v205 ← k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 d0 v2 v25 v44 v47 v167 v169 v170
  k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 d0 v41 v44 v47 v205
  K d0 v2 v14 v25

/-- the partial product of the opposite chunk, up to its store, -/
def oppositeProg {α : Type} (d0 : Dev nD) (v2 : BitVec 32) (K : FVec F S1024x1024 .bf16 → FVec F S512x1024 .bf16 → Vec F S512x1024 .bf16 → Prog (TpuEff nD τ sig (Elt F) Λ₀ .tc) α) :
    Prog (TpuEff nD τ sig (Elt F) Λ₀ .tc) α := do
  let ⟨v240, v252, v264, v268, v273⟩ ← k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 d0 v2
  let ⟨v302, v310, v311⟩ ← k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 d0 v252 v264 v268 v273
  let ⟨v336, v344, v345, v346, cst_213⟩ ← k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 d0 v252 v302 v310 v311
  let v384 ← k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 d0 v252 v336 v344 v345 v346 cst_213
  let ⟨v419, v420⟩ ← k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 d0 v252 v384
  k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 d0 v252 v419 v420
  let ⟨v492, v493⟩ ← k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 d0 v252
  let ⟨v527, v528⟩ ← k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 v240 v492 v493
  K v240 v527 v528

/-- its transfer, and the partial product of the next chunk with what came from the left, -/
def nextProg {α : Type} (d0 : Dev nD) (v2 : BitVec 32) (v25 : BitVec 32) (v527 : FVec F S512x1024 .bf16) (v528 : Vec F S512x1024 .bf16) (v240 : FVec F S1024x1024 .bf16) (K : Prog (TpuEff nD τ sig (Elt F) Λ₀ .tc) α) :
    Prog (TpuEff nD τ sig (Elt F) Λ₀ .tc) α := do
  let ⟨v550, v552, v553, v562, v563⟩ ← k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 d0 v2 v25 v527 v528
  let ⟨v586, v587, v596, v597, v598, cst_367⟩ ← k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 d0 v550 v552 v553 v562 v563
  let ⟨v620, v630, v634⟩ ← k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 d0 v550 v586 v587 v596 v597 v598 cst_367
  let ⟨v664, v668, v670, cst_413⟩ ← k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 d0 v550 v620 v630 v634
  let ⟨v698, v702, v707⟩ ← k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 d0 v550 v664 v668 v670 cst_413
  let ⟨v736, v744, v745⟩ ← k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 d0 v550 v698 v702 v707
  let ⟨v770, v778, v779, v780, cst_480⟩ ← k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 d0 v550 v736 v744 v745
  let v818 ← k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 d0 v550 v770 v778 v779 v780 cst_480
  k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 v25 v240 v818
  K

/-- its transfer, and the attention of the previous chunk, -/
def previousProg {α : Type} (d0 : Dev nD) (v2 : BitVec 32) (K : Vec F S512x1024 .bf16 → Prog (TpuEff nD τ sig (Elt F) Λ₀ .tc) α) :
    Prog (TpuEff nD τ sig (Elt F) Λ₀ .tc) α := do
  let ⟨v863, v865, v875, v879, v880, cst_554⟩ ← k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 d0 v2
  let ⟨v909, v913, v917⟩ ← k0_part26 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 d0 v863 v865 v875 v879 v880 cst_554
  let ⟨v943, v947, v952, v954⟩ ← k0_part27 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 d0 v863 v909 v913 v917
  let ⟨v981, v989, v990⟩ ← k0_part28 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 d0 v863 v943 v947 v952 v954
  let ⟨v1023, v1027⟩ ← k0_part29 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 d0 v863 v981 v989 v990
  let v1064 ← k0_part30 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 d0 v863 v1023 v1027
  let v1101 ← k0_part31 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 d0 v863 v1064
  let v1136 ← k0_part32 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 d0 v863 v1101
  K v1136

/-- its partial product and transfer, and the own chunk with what came from both sides. -/
def ownProg (d0 : Dev nD) (v2 : BitVec 32) (v14 : BitVec 32) (v240 : FVec F S1024x1024 .bf16) (v1136 : Vec F S512x1024 .bf16) (v25 : BitVec 32) :
    Prog (TpuEff nD τ sig (Elt F) Λ₀ .tc) PUnit := do
  let ⟨v1150, v1162, v1166, v1168, cst_736⟩ ← k0_part33 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 d0 v2 v14 v240 v1136
  let ⟨v1196, v1200, v1205⟩ ← k0_part34 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 d0 v1150 v1162 v1166 v1168 cst_736
  let ⟨v1234, v1242, v1243⟩ ← k0_part35 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 d0 v1150 v1196 v1200 v1205
  let ⟨v1268, v1276, v1277, v1278, cst_803⟩ ← k0_part36 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 d0 v1150 v1234 v1242 v1243
  let v1316 ← k0_part37 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 d0 v1150 v1268 v1276 v1277 v1278 cst_803
  let ⟨v1351, v1352⟩ ← k0_part38 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 d0 v1150 v1316
  k0_part39 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 d0 v1150 v1351 v1352
  let v1424 ← k0_part40 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 d0 v240
  k0_part41 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 v14 v25 v1424
  Prog.lift (.waitDma2 ((cc0_scratch10.slice (Rect.unit (s := S3) ![2] S1.size inb_S3_S1_2)).squeeze S_ squeezes_S1_S_).sem slot2 (Memref.whole cc0_scratch6)
    (((Memref.isWhole_whole cc0_scratch7).wordExact_slice rfl _ wordsbf16_S3x512x1024_S1x512x1024_2_0_0).reshape _ _) (Memref.isWhole_whole _).wordExact)
  pure ⟨⟩

/-- The body is its stages. -/
theorem body_eq : cc0__body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11
    = gatherProg (fun d0 v2 v14 v25 => oppositeProg d0 v2 (fun v240 v527 v528 => nextProg d0 v2 v25 v527 v528 v240 ( previousProg d0 v2 (fun v1136 =>
        ownProg d0 v2 v14 v240 v1136 v25)))) := rfl

end Cert.Ring
-- ==== Proof.Gather.lean ====
/-
The first stage at device `c`: the handshake, the three transfers of chunks, and the projections of each chunk as it lands.
-/
module

public import proofs.«01_k».proof.Proof.Pieces
public import proofs.«01_k».proof.Proof.Stages

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- A device's buffer, whole, at contents `f`. -/
abbrev buf (c : Dev nD) (b : Ref sig .tc) (f : Buf (Elt F) ((c : Thread nD τ).loc b)) : sProp 𝕄 := ((c : Thread nD τ).loc b) ↦{fullShare} f

/-- The staged argument blocks. -/
def args (c : Dev nD) : sProp 𝕄 :=
  iprop(buf c cc0_stg0_0 (xin m ρ c) ∗ buf c cc0_stg1_0 (wqIn m ρ c) ∗ buf c cc0_stg2_0 (woIn m ρ c) ∗ buf c cc0_stg3_0 (wkIn m ρ c) ∗ buf c cc0_stg4_0 (wvIn m ρ c))

/-- What device `c` pays with, waits with and reads at in the first stage. -/
def gatherGhost (c : Dev nD) : sProp 𝕄 :=
  iprop(dutyTok ER (barCell (prv c)) 0 false ∗ dutyTok ER (barCell (nxt c)) 0 true
    ∗ (dutyTok ER (dmaCell c 6) 0 false ∗ dutyTok ER (dmaCell c 7) 0 false ∗ dutyTok ER (dmaCell c 8) 0 false)
    ∗ (dutyTok ER (dmaCell (nxt c) 9) 0 false ∗ dutyTok ER (dmaCell (prv c) 10) 0 false ∗ dutyTok ER (dmaCell (nxt c) 11) 0 false)
    ∗ (cred (tallyAt (barCell c) () 2) ∗ cred (tallyAt (dmaCell c 9) () N) ∗ cred (tallyAt (dmaCell c 10) () N) ∗ cred (tallyAt (dmaCell c 11) () N))
    ∗ (atPos ER (barCell c) 0 ∅ 0 ∗ atPos ER (dmaCell c 6) 0 ∅ 0 ∗ atPos ER (dmaCell c 7) 0 ∅ 0 ∗ atPos ER (dmaCell c 8) 0 ∅ 0
      ∗ atPos ER (dmaCell c 9) 0 ∅ 0 ∗ atPos ER (dmaCell c 10) 0 ∅ 0 ∗ atPos ER (dmaCell c 11) 0 ∅ 0))

/-- The buffers the first stage writes. -/
def gatherMem (c : Dev nD) : sProp 𝕄 :=
  iprop((∃ f, buf (F := F) c cc0_scratch0 f) ∗ (∃ f, buf (F := F) c cc0_scratch1 f) ∗ (∃ f, buf (F := F) c cc0_scratch2 f)
    ∗ (∃ f, buf (F := F) c cc0_scratch3 f) ∗ (∃ f, buf (F := F) c cc0_scratch7 f))

/-- What it leaves: the rows and their projections, the neighbours' slots, its cells closed. -/
def gatherPost (c : Dev nD) : sProp 𝕄 :=
  iprop((∃ f, buf (F := F) c cc0_scratch0 f) ∗ buf c cc0_scratch1 (qRows m ρ c) ∗ buf c cc0_scratch2 (kRows m ρ c) ∗ buf c cc0_scratch3 (vRows m ρ c)
    ∗ (hasAny (F := F) (nxt c) slot0 ∗ hasAny (F := F) (nxt c) slot1 ∗ hasAny (F := F) (prv c) slot2)
    ∗ (semVal (barCell c) 0 ∗ semVal (dmaCell c 6) 0 ∗ semVal (dmaCell c 7) 0 ∗ semVal (dmaCell c 8) 0
      ∗ semVal (dmaCell c 9) 0 ∗ semVal (dmaCell c 10) 0 ∗ semVal (dmaCell c 11) 0))

theorem hz2 : (![0, 0] : Fin 2 → ℕ) = fun _ => 0 := by funext a; fin_cases a <;> rfl

theorem read_stg0 (f : cc0_stg0_0.ty.Contents (Elt F)) : (Memref.whole cc0_stg0_0 : Memref sig .tc _ _ _).view.readAt (Elt F)
    (Rect.unit (s := S512x1024) ![0, 0] S512x1024.size inb_S512x1024_S512x1024_0_0).toLoadRect f = f := Memref.readAt_unit_zero (Elt F) cc0_stg0_0 hz2 _ f
theorem read_stg1 (f : cc0_stg1_0.ty.Contents (Elt F)) : (Memref.whole cc0_stg1_0 : Memref sig .tc _ _ _).view.readAt (Elt F)
    (Rect.unit (s := S1024x1024) ![0, 0] S1024x1024.size inb_S1024x1024_S1024x1024_0_0).toLoadRect f = f := Memref.readAt_unit_zero (Elt F) cc0_stg1_0 hz2 _ f
theorem read_stg3 (f : cc0_stg3_0.ty.Contents (Elt F)) : (Memref.whole cc0_stg3_0 : Memref sig .tc _ _ _).view.readAt (Elt F)
    (Rect.unit (s := S1024x1024) ![0, 0] S1024x1024.size inb_S1024x1024_S1024x1024_0_0).toLoadRect f = f := Memref.readAt_unit_zero (Elt F) cc0_stg3_0 hz2 _ f
theorem read_stg4 (f : cc0_stg4_0.ty.Contents (Elt F)) : (Memref.whole cc0_stg4_0 : Memref sig .tc _ _ _).view.readAt (Elt F)
    (Rect.unit (s := S1024x1024) ![0, 0] S1024x1024.size inb_S1024x1024_S1024x1024_0_0).toLoadRect f = f := Memref.readAt_unit_zero (Elt F) cc0_stg4_0 hz2 _ f

/-- Load and overwrite the rows of chunk `j`. -/
theorem refresh {α : Type} {Q : α → sProp 𝕄} (c : Dev nD) {M : Memref sig .tc .vmem S2048x1024 .bf16} (j : Dev nD) {off : Fin 2 → ℕ} (h : off = offs j 0)
    {hin : ∀ a, off a + S512x1024.size a ≤ S2048x1024.size a} (w : Chunk F)
    {hl : M.view.LoadsAt (Rect.unit (s := S2048x1024) off S512x1024.size hin).toLoadRect}
    {hx : (M.access (Rect.unit (s := S2048x1024) off S512x1024.size hin)).Stores Finset.univ}
    {hm : (Finset.univ : Finset S512x1024.Idx) = Finset.univ ∨ ∀ a, (Rect.unit (s := S2048x1024) off S512x1024.size hin).stride a = 1}
    {k : PUnit → Prog (TpuEff nD τ sig (Elt F) Λ₀ .tc) α} (w' : Chunk F) (hw : w = w') :
    hasAny c (piece M j)
      ⊢ iprop((has c (piece M j) fullShare w' -∗ wp frame (wpE (defs₀ (F := F)) 𝒱₀ (c : Thread nD τ) none) Set.univ (k ⟨⟩) Q)
          -∗ wp frame (wpE (defs₀ (F := F)) 𝒱₀ (c : Thread nD τ) none) Set.univ
            (.op (.load M (Rect.unit (s := S2048x1024) off S512x1024.size hin).toLoadRect hl) fun _ =>
              .op (.store M (Rect.unit (s := S2048x1024) off S512x1024.size hin) w Finset.univ hx hm) k) Q) := by
  subst hw
  iintro ⟨%X, H⟩ Hk
  iapply (load_piece c j h fullShare X) $$ H
  iintro H
  iapply (store_piece c j h w X) $$ H
  iexact Hk

set_option maxHeartbeats 2000000 in
theorem gather_run (c : Dev nD) {α : Type} {Q : α → sProp 𝕄} (K : Dev nD → BitVec 32 → BitVec 32 → BitVec 32 → Prog (TpuEff nD τ sig (Elt F) Λ₀ .tc) α)
    (W : Waits sig Unit) :
    iprop(Recs m ρ ∗ levAts L lv ∗ owes (c : Thread nD τ) (O₀ c) W ∗ gatherGhost c ∗ args m ρ c ∗ gatherMem c)
      ⊢ iprop((∀ v2 v14 v25, (∃ W, owes (c : Thread nD τ) (O₃ c) W) -∗ args m ρ c -∗ gatherPost m ρ c
            -∗ wp frame (wpE (defs₀ (F := F)) 𝒱₀ (c : Thread nD τ) none) Set.univ (K c v2 v14 v25) Q)
          -∗ wp frame (wpE (defs₀ (F := F)) 𝒱₀ (c : Thread nD τ) none) Set.univ (gatherProg K) Q) := by
  unfold gatherProg
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, wp_deviceId]
  unfold gatherGhost args gatherMem
  iintro ⟨#HR, #Hlev, HO, ⟨TbP, TbN, ⟨T6, T7, T8⟩, ⟨T9, T10, T11⟩, ⟨CB, C9, C10, C11⟩, ⟨AB, A6, A7, A8, A9, A10, A11⟩⟩,
    ⟨Hx, Hwq, Hwo, Hwk, Hwv⟩, ⟨⟨%fx, Hxc⟩, ⟨%fq, Hq⟩, ⟨%fk, Hk⟩, ⟨%fv, Hv⟩, ⟨%fr, Hrs⟩⟩⟩ HK
  ihave Hxc := (Entails.of_eq (owns_whole (Ix := Unit) (Name := ℕ) (U := UU) (Lvl := ℕ) (c : Thread nD τ) cc0_scratch0 fullShare fx).symm) $$ Hxc
  ihave Hxc := (rows_split c xcM fx) $$ Hxc
  icases Hxc with ⟨⟨%y0, Xc⟩, Xp, Xn, Xo⟩
  ihave Hrs := (Entails.of_eq (owns_whole (Ix := Unit) (Name := ℕ) (U := UU) (Lvl := ℕ) (c : Thread nD τ) cc0_scratch7 fullShare fr).symm) $$ Hrs
  ihave Hrs := (slots_split c fr) $$ Hrs
  icases Hrs with ⟨R0, R1, R2⟩
  ihave Hq := (Entails.of_eq (owns_whole (Ix := Unit) (Name := ℕ) (U := UU) (Lvl := ℕ) (c : Thread nD τ) cc0_scratch1 fullShare fq).symm) $$ Hq
  ihave Hq := (rows_split c qbM fq) $$ Hq
  icases Hq with ⟨Qc, Qp, Qn, Qo⟩
  ihave Hk := (Entails.of_eq (owns_whole (Ix := Unit) (Name := ℕ) (U := UU) (Lvl := ℕ) (c : Thread nD τ) cc0_scratch2 fullShare fk).symm) $$ Hk
  ihave Hk := (rows_split c kbM fk) $$ Hk
  icases Hk with ⟨Kc, Kp, Kn, Ko⟩
  ihave Hv := (Entails.of_eq (owns_whole (Ix := Unit) (Name := ℕ) (U := UU) (Lvl := ℕ) (c : Thread nD τ) cc0_scratch3 fullShare fv).symm) $$ Hv
  ihave Hv := (rows_split c vbM fv) $$ Hv
  icases Hv with ⟨Vc, Vp, Vn, Vo⟩
  iapply (signal_rule m ρ c (prv c) _ (dev1_eq c) false (O₇ c) W) $$ [HO TbP Xp Xo R0 R1]
  · isplitr; · iexact HR
    isplitl [HO]; · unfold O₀; iexact HO
    isplitl [TbP]; · iexact TbP
    unfold barPay
    rw [if_neg (by decide), nxt_prv, prv_prv]
    isplitl [Xp]; · iexact Xp
    isplitl [Xo]; · iexact Xo
    isplitl [R0] <;> iassumption
  iintro HO
  iapply (signal_rule m ρ c (nxt c) _ (dev2_eq c) true (O₆ c) W) $$ [HO TbN Xn R2]
  · isplitr; · iexact HR
    isplitl [HO]; · unfold O₇; iexact HO
    isplitl [TbN]; · iexact TbN
    unfold barPay
    rw [if_pos rfl, prv_nxt]
    isplitl [Xn] <;> iassumption
  iintro HO
  iapply (wait_bar_rule m ρ c (O₆ c) W (above₆ c (le_refl 1))) $$ [CB HO AB]
  · isplitr; · iexact HR
    isplitr; · iexact Hlev
    isplitl [CB]; · iexact CB
    isplitl [HO] <;> iassumption
  unfold barPay
  rw [if_neg (by decide), if_pos rfl]
  iintro ⟨⟨%W₁, HO⟩, ZB, ⟨Yn, YnP, S0, S1⟩, ⟨Yp, S2⟩⟩
  iapply (load_whole c _ _ (read_stg0 _)) $$ [Hx]
  · iexact Hx
  iintro Hx
  iapply (refresh c c (off1_eq c) _ (xch m ρ c) rfl) $$ [Xc]
  · iexists y0; iexact Xc
  iintro Xc
  iapply (load_whole c _ _ (read_stg1 _)) $$ [Hwq]
  · iexact Hwq
  iintro Hwq
  iapply (load_whole c _ _ (read_stg3 _)) $$ [Hwk]
  · iexact Hwk
  iintro Hwk
  iapply (load_whole c _ _ (read_stg4 _)) $$ [Hwv]
  · iexact Hwv
  iintro Hwv
  ihave Xc := (owns_halves (Ix := Unit) (Name := ℕ) (U := UU) (Lvl := ℕ) (c : Thread nD τ) (piece xcM c) fullShare (xch m ρ c)).1 $$ Xc
  icases Xc with ⟨XR, Xc⟩
  ihave Xc := (owns_halves (Ix := Unit) (Name := ℕ) (U := UU) (Lvl := ℕ) (c : Thread nD τ) (piece xcM c) fullShare.right (xch m ρ c)).1 $$ Xc
  icases Xc with ⟨XL, XK⟩
  iapply (send_rule m ρ c (nxt c) _ (dev3_eq c) _ _ (piece xcM c) (piece xcM c) (piece_at _ (off2_eq c)) (piece_at _ (off2_eq c)) _ _ 6 9 ag_send0 ag_recv0
      (by decide) (by decide) rfl shR (xch m ρ c) (O₅ c) W₁ rfl (by show _ = has (nxt c) (piece xcM (prv (nxt c))) fullShare (xch m ρ (prv (nxt c))); rw [prv_nxt])) $$ [XR Yn HO T6 T9]
  · isplitr; · iexact HR
    isplitl [XR]; · iexact XR
    isplitl [Yn]; · iexact Yn
    isplitl [HO]; · iexact HO
    isplitl [T6] <;> iassumption
  iintro ⟨C6, HO⟩
  iapply (send_rule m ρ c (prv c) _ (dev4_eq c) _ _ (piece xcM c) (piece xcM c) (piece_at _ (off2_eq c)) (piece_at _ (off2_eq c)) _ _ 7 10 ag_send1 ag_recv1
      (by decide) (by decide) rfl shL (xch m ρ c) (O₄ c) W₁ rfl (by show _ = has (prv c) (piece xcM (nxt (prv c))) fullShare (xch m ρ (nxt (prv c))); rw [nxt_prv])) $$ [XL Yp HO T7 T10]
  · isplitr; · iexact HR
    isplitl [XL]; · iexact XL
    isplitl [Yp]; · iexact Yp
    isplitl [HO]; · iexact HO
    isplitl [T7] <;> iassumption
  iintro ⟨C7, HO⟩
  iapply (load_piece c c (off1_eq c) shK (xch m ρ c)) $$ [XK]
  · iexact XK
  iintro XK
  iapply (refresh c c (off1_eq c) _ (proj (wq m ρ c) (xch m ρ c)) rfl) $$ [Qc]
  · iexact Qc
  iintro Qc
  iapply (refresh c c (off1_eq c) _ (proj (wk m ρ c) (xch m ρ c)) rfl) $$ [Kc]
  · iexact Kc
  iintro Kc
  iapply (refresh c c (off1_eq c) _ (proj (wv m ρ c) (xch m ρ c)) rfl) $$ [Vc]
  · iexact Vc
  iintro Vc
  iapply (wait_rule m ρ c _ (xcM.slice (Rect.unit (s := S2048x1024) (k0_off2 c) S512x1024.size (k0_off2_inb c)) (fun _ => rfl)) _ 9 ag_recv0 (by decide) rfl 2 (le_refl _) (O₄ c) W₁ (above₄ c (by decide))
      (has c (piece xcM (prv c)) fullShare (xch m ρ (prv c))) rfl) $$ [C9 HO A9]
  · isplitr; · iexact HR
    isplitr; · iexact Hlev
    isplitl [C9]; · iexact C9
    isplitl [HO] <;> iassumption
  iintro ⟨⟨%W₂, HO⟩, Z9, Xp⟩
  ihave Xp := (owns_halves (Ix := Unit) (Name := ℕ) (U := UU) (Lvl := ℕ) (c : Thread nD τ) (piece xcM (prv c)) fullShare (xch m ρ (prv c))).1 $$ Xp
  icases Xp with ⟨XpL, XpR⟩
  iapply (send_rule m ρ c (nxt c) _ (dev5_eq c) _ _ (piece xcM (prv c)) (piece xcM (prv c)) (piece_at _ (off3_eq c)) (piece_at _ (off3_eq c)) _ _ 8 11 ag_send2 ag_recv2
      (by decide) (by decide) rfl fullShare.left (xch m ρ (prv c)) (O₃ c) W₂ rfl (by show _ = has (nxt c) (piece xcM (opp (nxt c))) fullShare (xch m ρ (opp (nxt c))); rw [opp_nxt])) $$ [XpL YnP HO T8 T11]
  · isplitr; · iexact HR
    isplitl [XpL]; · iexact XpL
    isplitl [YnP]; · iexact YnP
    isplitl [HO]; · iexact HO
    isplitl [T8] <;> iassumption
  iintro ⟨C8, HO⟩
  iapply (wait_rule m ρ c _ (xcM.slice (Rect.unit (s := S2048x1024) (k0_off2 c) S512x1024.size (k0_off2_inb c)) (fun _ => rfl)) _ 10 ag_recv1 (by decide) rfl 2 (le_refl _) (O₃ c) W₂ (above₃ c (by decide))
      (has c (piece xcM (nxt c)) fullShare (xch m ρ (nxt c))) rfl) $$ [C10 HO A10]
  · isplitr; · iexact HR
    isplitr; · iexact Hlev
    isplitl [C10]; · iexact C10
    isplitl [HO] <;> iassumption
  iintro ⟨⟨%W₃, HO⟩, Z10, Xn⟩
  iapply (load_piece c (prv c) (off4_eq c) fullShare.right (xch m ρ (prv c))) $$ [XpR]
  · iexact XpR
  iintro XpR
  iapply (refresh c (prv c) (off4_eq c) _ (proj (wq m ρ c) (xch m ρ (prv c))) rfl) $$ [Qp]
  · iexact Qp
  iintro Qp
  iapply (refresh c (prv c) (off4_eq c) _ (proj (wk m ρ c) (xch m ρ (prv c))) rfl) $$ [Kp]
  · iexact Kp
  iintro Kp
  iapply (refresh c (prv c) (off4_eq c) _ (proj (wv m ρ c) (xch m ρ (prv c))) rfl) $$ [Vp]
  · iexact Vp
  iintro Vp
  iapply (load_piece c (nxt c) (off5_eq_nxt c) fullShare (xch m ρ (nxt c))) $$ [Xn]
  · iexact Xn
  iintro Xn
  iapply (refresh c (nxt c) (off5_eq_nxt c) _ (proj (wq m ρ c) (xch m ρ (nxt c))) rfl) $$ [Qn]
  · iexact Qn
  iintro Qn
  iapply (refresh c (nxt c) (off5_eq_nxt c) _ (proj (wk m ρ c) (xch m ρ (nxt c))) rfl) $$ [Kn]
  · iexact Kn
  iintro Kn
  iapply (refresh c (nxt c) (off5_eq_nxt c) _ (proj (wv m ρ c) (xch m ρ (nxt c))) rfl) $$ [Vn]
  · iexact Vn
  iintro Vn
  iapply (wait_rule m ρ c _ (xcM.slice (Rect.unit (s := S2048x1024) (k0_off3 c) S512x1024.size (k0_off3_inb c)) (fun _ => rfl)) _ 11 ag_recv2 (by decide) rfl 3 (le_refl _) (O₃ c) W₃ (above₃ c (by decide))
      (has c (piece xcM (opp c)) fullShare (xch m ρ (opp c))) rfl) $$ [C11 HO A11]
  · isplitr; · iexact HR
    isplitr; · iexact Hlev
    isplitl [C11]; · iexact C11
    isplitl [HO] <;> iassumption
  iintro ⟨⟨%W₄, HO⟩, Z11, Xo⟩
  iapply (load_piece c (opp c) (off5_eq_opp c) fullShare (xch m ρ (opp c))) $$ [Xo]
  · iexact Xo
  iintro Xo
  iapply (refresh c (opp c) (off5_eq_opp c) _ (proj (wq m ρ c) (xch m ρ (opp c))) rfl) $$ [Qo]
  · iexact Qo
  iintro Qo
  iapply (refresh c (opp c) (off5_eq_opp c) _ (proj (wk m ρ c) (xch m ρ (opp c))) rfl) $$ [Ko]
  · iexact Ko
  iintro Ko
  iapply (refresh c (opp c) (off5_eq_opp c) _ (proj (wv m ρ c) (xch m ρ (opp c))) rfl) $$ [Vo]
  · iexact Vo
  iintro Vo
  iapply (wait_rule m ρ c _ (xcM.slice (Rect.unit (s := S2048x1024) (k0_off2 c) S512x1024.size (k0_off2_inb c)) (fun _ => rfl)) _ 6 ag_send0 (by decide) rfl 0 (le_refl _) (O₃ c) W₄ (above₃ c (by decide))
      (has c (piece xcM c) shR (xch m ρ c)) rfl) $$ [C6 HO A6]
  · isplitr; · iexact HR
    isplitr; · iexact Hlev
    isplitl [C6]; · iexact C6
    isplitl [HO] <;> iassumption
  iintro ⟨⟨%W₅, HO⟩, Z6, XR⟩
  iapply (wait_rule m ρ c _ (xcM.slice (Rect.unit (s := S2048x1024) (k0_off2 c) S512x1024.size (k0_off2_inb c)) (fun _ => rfl)) _ 7 ag_send1 (by decide) rfl 0 (le_refl _) (O₃ c) W₅ (above₃ c (by decide))
      (has c (piece xcM c) shL (xch m ρ c)) rfl) $$ [C7 HO A7]
  · isplitr; · iexact HR
    isplitr; · iexact Hlev
    isplitl [C7]; · iexact C7
    isplitl [HO] <;> iassumption
  iintro ⟨⟨%W₆, HO⟩, Z7, XL⟩
  iapply (wait_rule m ρ c _ (xcM.slice (Rect.unit (s := S2048x1024) (k0_off3 c) S512x1024.size (k0_off3_inb c)) (fun _ => rfl)) _ 8 ag_send2 (by decide) rfl 0 (le_refl _) (O₃ c) W₆ (above₃ c (by decide))
      (has c (piece xcM (prv c)) fullShare.left (xch m ρ (prv c))) rfl) $$ [C8 HO A8]
  · isplitr; · iexact HR
    isplitr; · iexact Hlev
    isplitl [C8]; · iexact C8
    isplitl [HO] <;> iassumption
  iintro ⟨⟨%W₇, HO⟩, Z8, XpL⟩
  iapply HK $$ [HO] [Hx Hwq Hwo Hwk Hwv]
  · iexists W₇; iexact HO
  · isplitl [Hx]; · iexact Hx
    isplitl [Hwq]; · iexact Hwq
    isplitl [Hwo]; · iexact Hwo
    isplitl [Hwk] <;> iassumption
  unfold gatherPost
  isplitl [XR XL XK XpL XpR Xn Xo]
  · ihave Xc := (owns_halves (Ix := Unit) (Name := ℕ) (U := UU) (Lvl := ℕ) (c : Thread nD τ) (piece xcM c) fullShare.right (xch m ρ c)).2 $$ [XL XK]
    · isplitl [XL] <;> iassumption
    ihave Xc := (owns_halves (Ix := Unit) (Name := ℕ) (U := UU) (Lvl := ℕ) (c : Thread nD τ) (piece xcM c) fullShare (xch m ρ c)).2 $$ [XR Xc]
    · isplitl [XR] <;> iassumption
    ihave Xp := (owns_halves (Ix := Unit) (Name := ℕ) (U := UU) (Lvl := ℕ) (c : Thread nD τ) (piece xcM (prv c)) fullShare (xch m ρ (prv c))).2 $$ [XpL XpR]
    · isplitl [XpL] <;> iassumption
    iexists stack (xch m ρ)
    iapply (Entails.of_eq (owns_whole (Ix := Unit) (Name := ℕ) (U := UU) (Lvl := ℕ) (c : Thread nD τ) cc0_scratch0 fullShare (stack (xch m ρ))))
    iapply (rows_join c xcM (xch m ρ))
    isplitl [Xc]; · iexact Xc
    isplitl [Xp]; · iexact Xp
    isplitl [Xn] <;> iassumption
  isplitl [Qc Qp Qn Qo]
  · iapply (Entails.of_eq (owns_whole (Ix := Unit) (Name := ℕ) (U := UU) (Lvl := ℕ) (c : Thread nD τ) cc0_scratch1 fullShare (stack fun j => proj (wq m ρ c) (xch m ρ j))))
    iapply (rows_join c qbM fun j => proj (wq m ρ c) (xch m ρ j))
    isplitl [Qc]; · iexact Qc
    isplitl [Qp]; · iexact Qp
    isplitl [Qn] <;> iassumption
  isplitl [Kc Kp Kn Ko]
  · iapply (Entails.of_eq (owns_whole (Ix := Unit) (Name := ℕ) (U := UU) (Lvl := ℕ) (c : Thread nD τ) cc0_scratch2 fullShare (stack fun j => proj (wk m ρ c) (xch m ρ j))))
    iapply (rows_join c kbM fun j => proj (wk m ρ c) (xch m ρ j))
    isplitl [Kc]; · iexact Kc
    isplitl [Kp]; · iexact Kp
    isplitl [Kn] <;> iassumption
  isplitl [Vc Vp Vn Vo]
  · iapply (Entails.of_eq (owns_whole (Ix := Unit) (Name := ℕ) (U := UU) (Lvl := ℕ) (c : Thread nD τ) cc0_scratch3 fullShare (stack fun j => proj (wv m ρ c) (xch m ρ j))))
    iapply (rows_join c vbM fun j => proj (wv m ρ c) (xch m ρ j))
    isplitl [Vc]; · iexact Vc
    isplitl [Vp]; · iexact Vp
    isplitl [Vn] <;> iassumption
  isplitl [S0 S1 S2]
  · isplitl [S0]; · iexact S0
    isplitl [S1] <;> iassumption
  isplitl [ZB]; · iexact ZB
  isplitl [Z6]; · iexact Z6
  isplitl [Z7]; · iexact Z7
  isplitl [Z8]; · iexact Z8
  isplitl [Z9]; · iexact Z9
  isplitl [Z10] <;> iassumption

end Cert.Ring
-- ==== Proof.Heads.lean ====
/-
One head at device `c`: the five loads, and the store of its columns; the eight heads side by side.
-/
module

public import proofs.«01_k».proof.Proof.Gather

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The heads side by side -/

theorem head_inb : ∀ (h : Fin 8) (a : Fin 2), (![0, 128 * h.val] : Fin 2 → ℕ) a + S512x128.size a ≤ S512x1024.size a := by decide +kernel
abbrev colsOf (h : Fin 8) : Rect S512x1024 := Rect.unit (s := S512x1024) ![0, 128 * h.val] S512x128.size (head_inb h)

/-- The buffer of the heads' results, its first `n` heads in place. -/
def filled (c : Dev nD) (X : Fin 8 → FVec F S512x128 .bf16) (n : ℕ) : sProp 𝕄 :=
  iprop(∃ f : S512x1024.Idx → Elt F .bf16, ⌜∀ i : S512x1024.Idx, (i 1).val < 128 * n → f i = beside X i⌝ ∗ buf c cc0_scratch4 f)

/-- Head `h`'s columns written over what holds the heads before it. -/
theorem fill_step (X : Fin 8 → FVec F S512x128 .bf16) (h : Fin 8) (f : S512x1024.Idx → Elt F .bf16)
    (hf : ∀ i : S512x1024.Idx, (i 1).val < 128 * h.val → f i = beside X i) (i : S512x1024.Idx) (hi : (i 1).val < 128 * (h.val + 1)) :
    (atM.access (colsOf h)).write (Elt F) f (X h) Finset.univ i = beside X i := by
  show atM.view.read (Elt F) ((atM.view.slice (colsOf h)).write (Elt F) f (X h) Finset.univ) i = beside X i
  by_cases hlt : (i 1).val < 128 * h.val
  · rw [View.read_slice_write_of_not_mem]
    · exact hf i hlt
    · intro hm
      rw [Finset.mem_map] at hm
      obtain ⟨x, -, rfl⟩ := hm
      have : ((colsOf h).emb x 1).val = 128 * h.val + (x 1).val := by rw [Rect.emb_apply]; show 128 * h.val + 1 * (x 1).val = _; omega
      omega
  · have hx : (i 1).val - 128 * h.val < 128 := by omega
    have e : i = (colsOf h).emb (fun a => match a with | ⟨0, _⟩ => i 0 | ⟨1, _⟩ => (⟨(i 1).val - 128 * h.val, hx⟩ : Fin 128)) := by
      funext a
      refine Fin.ext ?_
      rw [Rect.emb_apply]
      match a with
      | ⟨0, _⟩ => show (i 0).val = 0 + 1 * (i 0).val; omega
      | ⟨1, _⟩ => show (i 1).val = 128 * h.val + 1 * ((i 1).val - 128 * h.val); omega
    have hr := View.read_slice_write_emb (v := atM.view) (Val := Elt F) (colsOf h) f (X h) (M := Finset.univ) (x := fun a => match a with | ⟨0, _⟩ => i 0 | ⟨1, _⟩ => (⟨(i 1).val - 128 * h.val, hx⟩ : Fin 128)) (Finset.mem_univ _)
    rw [← e] at hr
    rw [hr]
    unfold beside
    rw [show headNo (i 1) = h from Fin.ext (by show (i 1).val / 128 = h.val; omega)]
    congr 1
    funext a
    match a with
    | ⟨0, _⟩ => rfl
    | ⟨1, _⟩ => exact Fin.ext (by show (i 1).val - 128 * h.val = (i 1).val % 128; omega)

/-- The heads' results loaded when all are in place. -/
theorem load_heads {α : Type} {Q : α → sProp 𝕄} (c : Dev nD) (X : Fin 8 → FVec F S512x128 .bf16)
    {i0 : ∀ a, (![0, 0] : Fin 2 → ℕ) a + S512x1024.size a ≤ S512x1024.size a}
    {la : atM.view.LoadsAt (Rect.unit (s := S512x1024) ![0, 0] S512x1024.size i0).toLoadRect}
    {k : Chunk F → Prog (TpuEff nD τ sig (Elt F) Λ₀ .tc) α} :
    filled c X 8
      ⊢ iprop(((∃ f, buf (F := F) c cc0_scratch4 f) -∗ wp frame (wpE (defs₀ (F := F)) 𝒱₀ (c : Thread nD τ) none) Set.univ (k (beside X)) Q)
          -∗ wp frame (wpE (defs₀ (F := F)) 𝒱₀ (c : Thread nD τ) none) Set.univ
            (.op (.load atM (Rect.unit (s := S512x1024) ![0, 0] S512x1024.size i0).toLoadRect la) k) Q) := by
  unfold filled
  iintro ⟨%f, %hf, Ha⟩ HK
  obtain rfl : f = beside X := funext fun i => hf i (i 1).isLt
  iapply (load_whole c (beside X) (beside X) (Memref.readAt_unit_zero (Elt F) cc0_scratch4 hz2 _ _)) $$ [Ha]
  · iexact Ha
  iintro Ha
  iapply HK
  iexists _; iexact Ha

theorem filled_zero (c : Dev nD) (X : Fin 8 → FVec F S512x128 .bf16) :
    iprop(∃ f, buf (F := F) c cc0_scratch4 f) ⊢ filled c X ((0 : Fin 8).val) := by
  iintro ⟨%f, H⟩
  unfold filled
  iexists f
  isplitr; · ipureintro; exact fun i hi => absurd hi (Nat.not_lt_zero _)
  iexact H

/-- One head of the program. -/
def headProg {α : Type} (off : Fin 2 → ℕ) (iq : ∀ a, off a + S512x128.size a ≤ S2048x1024.size a) (h : Fin 8)
    (hx : (atM.access (colsOf h)).Stores Finset.univ) (k : Prog (TpuEff nD τ sig (Elt F) Λ₀ .tc) α) : Prog (TpuEff nD τ sig (Elt F) Λ₀ .tc) α :=
  .op (.load qbM (Rect.unit (s := S2048x1024) off S512x128.size iq).toLoadRect (View.loadsAt_vmem h_S512x128)) fun q =>
  .op (.load kbM (colsLo h).toLoadRect (View.loadsAt_vmem h_S1024x128)) fun k₀ =>
  .op (.load vbM (colsLo h).toLoadRect (View.loadsAt_vmem h_S1024x128)) fun v₀ =>
  .op (.load kbM (colsHi h).toLoadRect (View.loadsAt_vmem h_S1024x128)) fun k₁ =>
  .op (.load vbM (colsHi h).toLoadRect (View.loadsAt_vmem h_S1024x128)) fun v₁ =>
  .op (.load atM (colsOf h).toLoadRect (View.loadsAt_vmem h_S512x128)) fun _ =>
  .op (.store atM (colsOf h) (headOf q k₀ v₀ k₁ v₁) Finset.univ hx (.inl rfl)) fun _ => k

theorem stores_head0 : (atM.access (colsOf 0)).Stores Finset.univ := View.stores_vmem h_S512x128 ((Memref.isWhole_whole cc0_scratch4).storeExact_slice rfl _ packedbf16_S512x1024_S512x128_0_0) (fun _ => rfl)
theorem stores_head1 : (atM.access (colsOf 1)).Stores Finset.univ := View.stores_vmem h_S512x128 ((Memref.isWhole_whole cc0_scratch4).storeExact_slice rfl _ packedbf16_S512x1024_S512x128_0_128) (fun _ => rfl)
theorem stores_head2 : (atM.access (colsOf 2)).Stores Finset.univ := View.stores_vmem h_S512x128 ((Memref.isWhole_whole cc0_scratch4).storeExact_slice rfl _ packedbf16_S512x1024_S512x128_0_256) (fun _ => rfl)
theorem stores_head3 : (atM.access (colsOf 3)).Stores Finset.univ := View.stores_vmem h_S512x128 ((Memref.isWhole_whole cc0_scratch4).storeExact_slice rfl _ packedbf16_S512x1024_S512x128_0_384) (fun _ => rfl)
theorem stores_head4 : (atM.access (colsOf 4)).Stores Finset.univ := View.stores_vmem h_S512x128 ((Memref.isWhole_whole cc0_scratch4).storeExact_slice rfl _ packedbf16_S512x1024_S512x128_0_512) (fun _ => rfl)
theorem stores_head5 : (atM.access (colsOf 5)).Stores Finset.univ := View.stores_vmem h_S512x128 ((Memref.isWhole_whole cc0_scratch4).storeExact_slice rfl _ packedbf16_S512x1024_S512x128_0_640) (fun _ => rfl)
theorem stores_head6 : (atM.access (colsOf 6)).Stores Finset.univ := View.stores_vmem h_S512x128 ((Memref.isWhole_whole cc0_scratch4).storeExact_slice rfl _ packedbf16_S512x1024_S512x128_0_768) (fun _ => rfl)
theorem stores_head7 : (atM.access (colsOf 7)).Stores Finset.univ := View.stores_vmem h_S512x128 ((Memref.isWhole_whole cc0_scratch4).storeExact_slice rfl _ packedbf16_S512x1024_S512x128_0_896) (fun _ => rfl)

/-- The eight heads in turn, their queries at the given places. -/
def headsProg {α : Type} (off : Fin 8 → Fin 2 → ℕ) (iq : ∀ h a, off h a + S512x128.size a ≤ S2048x1024.size a)
    (k : Prog (TpuEff nD τ sig (Elt F) Λ₀ .tc) α) : Prog (TpuEff nD τ sig (Elt F) Λ₀ .tc) α :=
  headProg (off 0) (iq 0) 0 stores_head0 <| headProg (off 1) (iq 1) 1 stores_head1 <| headProg (off 2) (iq 2) 2 stores_head2 <|
  headProg (off 3) (iq 3) 3 stores_head3 <| headProg (off 4) (iq 4) 4 stores_head4 <| headProg (off 5) (iq 5) 5 stores_head5 <|
  headProg (off 6) (iq 6) 6 stores_head6 <| headProg (off 7) (iq 7) 7 stores_head7 k

/-- A device's projections of all rows. -/
def projs (c : Dev nD) (fq fk fv : Rows F) : sProp 𝕄 := iprop(buf c cc0_scratch1 fq ∗ buf c cc0_scratch2 fk ∗ buf c cc0_scratch3 fv)

/-- The five loads of a head, and its columns stored. -/
theorem head_run {α : Type} {Q : α → sProp 𝕄} (c j : Dev nD) (h : Fin 8) (n : ℕ) (hn : h.val + 1 = n) (fq fk fv : Rows F) (off : Fin 2 → ℕ) (hq : off = offs j h.val)
    {iq : ∀ a, off a + S512x128.size a ≤ S2048x1024.size a} {hx : (atM.access (colsOf h)).Stores Finset.univ} {k : Prog (TpuEff nD τ sig (Elt F) Λ₀ .tc) α} :
    iprop(filled c (headAt fq fk fv j) h.val ∗ projs c fq fk fv)
      ⊢ iprop(((filled c (headAt fq fk fv j) n ∗ projs c fq fk fv)
            -∗ wp frame (wpE (defs₀ (F := F)) 𝒱₀ (c : Thread nD τ) none) Set.univ k Q)
          -∗ wp frame (wpE (defs₀ (F := F)) 𝒱₀ (c : Thread nD τ) none) Set.univ (headProg off iq h hx k) Q) := by
  subst hq hn
  unfold filled projs headProg
  iintro ⟨⟨%f, %hf, Ha⟩, Hq, Hk, Hv⟩ HK
  iapply (load_whole c fq (fun i => fq ((rowsHead j h).emb i)) rfl) $$ [Hq]
  · iexact Hq
  iintro Hq
  iapply (load_whole c fk (fun i => fk ((colsLo h).emb i)) rfl) $$ [Hk]
  · iexact Hk
  iintro Hk
  iapply (load_whole c fv (fun i => fv ((colsLo h).emb i)) rfl) $$ [Hv]
  · iexact Hv
  iintro Hv
  iapply (load_whole c fk (fun i => fk ((colsHi h).emb i)) rfl) $$ [Hk]
  · iexact Hk
  iintro Hk
  iapply (load_whole c fv (fun i => fv ((colsHi h).emb i)) rfl) $$ [Hv]
  · iexact Hv
  iintro Hv
  iapply (wp_load 𝒱₀ (c : Thread nD τ) none Set.univ (m := atM) (Finset.subset_univ _)) $$ Ha
  iintro Ha
  iapply (wp_store 𝒱₀ (c : Thread nD τ) none Set.univ (m := atM) (r := colsOf h) (Mk := Finset.univ) (Finset.subset_univ _)) $$ Ha
  iintro Ha
  iapply HK
  isplitl [Ha]
  · iexists ((atM.access (colsOf h)).write (Elt F) f (headAt fq fk fv j h) Finset.univ)
    isplitr; · ipureintro; exact fun i hi => fill_step (headAt fq fk fv j) h f hf i hi
    iexact Ha
  isplitl [Hq]; · iexact Hq
  isplitl [Hk] <;> iassumption

/-- The eight heads leave all their results in place. -/
theorem heads_run {α : Type} {Q : α → sProp 𝕄} (c j : Dev nD) (fq fk fv : Rows F) (off : Fin 8 → Fin 2 → ℕ) (hq : ∀ h, off h = offs j h.val)
    {iq : ∀ h a, off h a + S512x128.size a ≤ S2048x1024.size a} {k : Prog (TpuEff nD τ sig (Elt F) Λ₀ .tc) α} :
    iprop((∃ f, buf (F := F) c cc0_scratch4 f) ∗ projs c fq fk fv)
      ⊢ iprop(((filled c (headAt fq fk fv j) 8 ∗ projs c fq fk fv)
            -∗ wp frame (wpE (defs₀ (F := F)) 𝒱₀ (c : Thread nD τ) none) Set.univ k Q)
          -∗ wp frame (wpE (defs₀ (F := F)) 𝒱₀ (c : Thread nD τ) none) Set.univ (headsProg off iq k) Q) := by
  have go (h : Fin 8) (n : ℕ) (hn : h.val + 1 = n) {hx : (atM.access (colsOf h)).Stores Finset.univ} {k : Prog (TpuEff nD τ sig (Elt F) Λ₀ .tc) α} :=
    head_run (Q := Q) c j h n hn fq fk fv (off h) (hq h) (iq := iq h) (hx := hx) (k := k)
  unfold headsProg
  iintro ⟨Ha, Hp⟩ HK
  ihave Ha := (filled_zero c (headAt fq fk fv j)) $$ Ha
  iapply (go 0 1 rfl) $$ [Ha Hp]; · isplitl [Ha] <;> iassumption
  iintro H
  iapply (go 1 2 rfl) $$ [H]; · iexact H
  iintro H
  iapply (go 2 3 rfl) $$ [H]; · iexact H
  iintro H
  iapply (go 3 4 rfl) $$ [H]; · iexact H
  iintro H
  iapply (go 4 5 rfl) $$ [H]; · iexact H
  iintro H
  iapply (go 5 6 rfl) $$ [H]; · iexact H
  iintro H
  iapply (go 6 7 rfl) $$ [H]; · iexact H
  iintro H
  iapply (go 7 8 rfl) $$ [H]; · iexact H
  iexact HK

/-! ## The buffers the partial products leave from -/

theorem load_pa {α : Type} {Q : α → sProp 𝕄} (c : Dev nD)
    {i0 : ∀ a, (![0, 0] : Fin 2 → ℕ) a + S512x1024.size a ≤ S512x1024.size a}
    {la : paM.view.LoadsAt (Rect.unit (s := S512x1024) ![0, 0] S512x1024.size i0).toLoadRect}
    {k : Chunk F → Prog (TpuEff nD τ sig (Elt F) Λ₀ .tc) α} (X : Chunk F) :
    has c paM fullShare X
      ⊢ iprop((has c paM fullShare X -∗ wp frame (wpE (defs₀ (F := F)) 𝒱₀ (c : Thread nD τ) none) Set.univ (k X) Q)
          -∗ wp frame (wpE (defs₀ (F := F)) 𝒱₀ (c : Thread nD τ) none) Set.univ
            (.op (.load paM (Rect.unit (s := S512x1024) ![0, 0] S512x1024.size i0).toLoadRect la) k) Q) := by
  rw [show has c paM fullShare X = buf c cc0_scratch5 X from owns_whole _ _ _ _]
  iintro H HK
  iapply (load_whole c X X (Memref.readAt_unit_zero (Elt F) cc0_scratch5 hz2 _ _)) $$ [H]
  · iexact H
  iexact HK

theorem store_pa {α : Type} {Q : α → sProp 𝕄} (c : Dev nD) (w w' : Chunk F) (hw : w = w')
    {i0 : ∀ a, (![0, 0] : Fin 2 → ℕ) a + S512x1024.size a ≤ S512x1024.size a}
    {hx : (paM.access (Rect.unit (s := S512x1024) ![0, 0] S512x1024.size i0)).Stores Finset.univ}
    {hm : (Finset.univ : Finset S512x1024.Idx) = Finset.univ ∨ ∀ a, (Rect.unit (s := S512x1024) ![0, 0] S512x1024.size i0).stride a = 1}
    {k : PUnit → Prog (TpuEff nD τ sig (Elt F) Λ₀ .tc) α} (X : Chunk F) :
    has c paM fullShare X
      ⊢ iprop((has c paM fullShare w' -∗ wp frame (wpE (defs₀ (F := F)) 𝒱₀ (c : Thread nD τ) none) Set.univ (k ⟨⟩) Q)
          -∗ wp frame (wpE (defs₀ (F := F)) 𝒱₀ (c : Thread nD τ) none) Set.univ
            (.op (.store paM (Rect.unit (s := S512x1024) ![0, 0] S512x1024.size i0) w Finset.univ hx hm) k) Q) := by
  subst hw
  rw [show has c paM fullShare X = buf c cc0_scratch5 X from owns_whole _ _ _ _, show has c paM fullShare w = buf c cc0_scratch5 w from owns_whole _ _ _ _]
  iintro H HK
  iapply (wp_store 𝒱₀ (c : Thread nD τ) none Set.univ (m := paM) (r := Rect.unit (s := S512x1024) ![0, 0] S512x1024.size i0) (Mk := Finset.univ) (Finset.subset_univ _)) $$ H
  iintro H
  rw [show (paM.access (Rect.unit (s := S512x1024) ![0, 0] S512x1024.size i0)).write (Elt F) X w Finset.univ = w from
    Memref.write_access_unit_zero_univ (Elt F) cc0_scratch5 hz2 _ X w]
  iapply HK
  iexact H

theorem refill_pb {α : Type} {Q : α → sProp 𝕄} (c : Dev nD) (w w' : Chunk F) (hw : w = w')
    {i0 : ∀ a, (![0, 0] : Fin 2 → ℕ) a + S512x1024.size a ≤ S512x1024.size a}
    {la : pbM.view.LoadsAt (Rect.unit (s := S512x1024) ![0, 0] S512x1024.size i0).toLoadRect}
    {hx : (pbM.access (Rect.unit (s := S512x1024) ![0, 0] S512x1024.size i0)).Stores Finset.univ}
    {hm : (Finset.univ : Finset S512x1024.Idx) = Finset.univ ∨ ∀ a, (Rect.unit (s := S512x1024) ![0, 0] S512x1024.size i0).stride a = 1}
    {k : PUnit → Prog (TpuEff nD τ sig (Elt F) Λ₀ .tc) α} (X : Chunk F) :
    has c pbM fullShare X
      ⊢ iprop((has c pbM fullShare w' -∗ wp frame (wpE (defs₀ (F := F)) 𝒱₀ (c : Thread nD τ) none) Set.univ (k ⟨⟩) Q)
          -∗ wp frame (wpE (defs₀ (F := F)) 𝒱₀ (c : Thread nD τ) none) Set.univ
            (.op (.load pbM (Rect.unit (s := S512x1024) ![0, 0] S512x1024.size i0).toLoadRect la) fun _ =>
              .op (.store pbM (Rect.unit (s := S512x1024) ![0, 0] S512x1024.size i0) w Finset.univ hx hm) k) Q) := by
  subst hw
  rw [show has c pbM fullShare X = buf c cc0_scratch6 X from owns_whole _ _ _ _, show has c pbM fullShare w = buf c cc0_scratch6 w from owns_whole _ _ _ _]
  iintro H HK
  iapply (wp_load 𝒱₀ (c : Thread nD τ) none Set.univ (m := pbM) (Finset.subset_univ _)) $$ H
  iintro H
  iapply (wp_store 𝒱₀ (c : Thread nD τ) none Set.univ (m := pbM) (r := Rect.unit (s := S512x1024) ![0, 0] S512x1024.size i0) (Mk := Finset.univ) (Finset.subset_univ _)) $$ H
  iintro H
  rw [show (pbM.access (Rect.unit (s := S512x1024) ![0, 0] S512x1024.size i0)).write (Elt F) X w Finset.univ = w from
    Memref.write_access_unit_zero_univ (Elt F) cc0_scratch6 hz2 _ X w]
  iapply HK
  iexact H

/-- The result's buffer, loaded and overwritten. -/
theorem refill_out {α : Type} {Q : α → sProp 𝕄} (c : Dev nD) (w w' : S512x1024.Idx → Elt F .f32) (hw : w = w')
    {i0 : ∀ a, (![0, 0] : Fin 2 → ℕ) a + S512x1024.size a ≤ S512x1024.size a}
    {la : (Memref.whole cc0_stg5_0 : Memref sig .tc .vmem S512x1024 .f32).view.LoadsAt (Rect.unit (s := S512x1024) ![0, 0] S512x1024.size i0).toLoadRect}
    {hx : ((Memref.whole cc0_stg5_0 : Memref sig .tc .vmem S512x1024 .f32).access (Rect.unit (s := S512x1024) ![0, 0] S512x1024.size i0)).Stores Finset.univ}
    {hm : (Finset.univ : Finset S512x1024.Idx) = Finset.univ ∨ ∀ a, (Rect.unit (s := S512x1024) ![0, 0] S512x1024.size i0).stride a = 1}
    {k : PUnit → Prog (TpuEff nD τ sig (Elt F) Λ₀ .tc) α} (X : S512x1024.Idx → Elt F .f32) :
    buf c cc0_stg5_0 X
      ⊢ iprop((buf c cc0_stg5_0 w' -∗ wp frame (wpE (defs₀ (F := F)) 𝒱₀ (c : Thread nD τ) none) Set.univ (k ⟨⟩) Q)
          -∗ wp frame (wpE (defs₀ (F := F)) 𝒱₀ (c : Thread nD τ) none) Set.univ
            (.op (.load (Memref.whole cc0_stg5_0 : Memref sig .tc .vmem S512x1024 .f32) (Rect.unit (s := S512x1024) ![0, 0] S512x1024.size i0).toLoadRect la) fun _ =>
              .op (.store (Memref.whole cc0_stg5_0 : Memref sig .tc .vmem S512x1024 .f32) (Rect.unit (s := S512x1024) ![0, 0] S512x1024.size i0) w Finset.univ hx hm) k) Q) := by
  subst hw
  iintro H HK
  iapply (wp_load 𝒱₀ (c : Thread nD τ) none Set.univ (m := (Memref.whole cc0_stg5_0 : Memref sig .tc .vmem S512x1024 .f32)) (Finset.subset_univ _)) $$ H
  iintro H
  iapply (wp_store 𝒱₀ (c : Thread nD τ) none Set.univ (m := (Memref.whole cc0_stg5_0 : Memref sig .tc .vmem S512x1024 .f32)) (r := Rect.unit (s := S512x1024) ![0, 0] S512x1024.size i0) (Mk := Finset.univ) (Finset.subset_univ _)) $$ H
  iintro H
  rw [show ((Memref.whole cc0_stg5_0 : Memref sig .tc .vmem S512x1024 .f32).access (Rect.unit (s := S512x1024) ![0, 0] S512x1024.size i0)).write (Elt F) X w Finset.univ = w from
    Memref.write_access_unit_zero_univ (Elt F) cc0_stg5_0 hz2 _ X w]
  iapply HK
  iexact H

end Cert.Ring
-- ==== Proof.Products.lean ====
/-
The four partial products at device `c`: the heads of each chunk, the transfers between them, and the sum of what lands.
-/
module

public import proofs.«01_k».proof.Proof.Heads

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The program of each product -/

/-- Where the queries of the opposite chunk's heads lie. -/
abbrev offO (c : Dev nD) : Fin 8 → Fin 2 → ℕ := ![k0_off6 c 2#32, k0_off7 c 2#32, k0_off8 c 2#32, k0_off9 c 2#32, k0_off10 c 2#32, k0_off11 c 2#32, k0_off12 c 2#32, k0_off13 c 2#32]
theorem offO_eq : ∀ (c : Dev nD) (h : Fin 8), offO c h = offs (opp c) h.val := by decide +kernel
theorem offO_inb (c : Dev nD) (h : Fin 8) (a : Fin 2) : offO c h a + S512x128.size a ≤ S2048x1024.size a := by
  rw [offO_eq]; exact offs_inb_head _ h a

/-- Where the queries of the next chunk's heads lie. -/
abbrev offN (c : Dev nD) : Fin 8 → Fin 2 → ℕ := ![k0_off6 c 1#32, k0_off7 c 1#32, k0_off8 c 1#32, k0_off9 c 1#32, k0_off10 c 1#32, k0_off11 c 1#32, k0_off12 c 1#32, k0_off13 c 1#32]
theorem offN_eq : ∀ (c : Dev nD) (h : Fin 8), offN c h = offs (nxt c) h.val := by decide +kernel
theorem offN_inb (c : Dev nD) (h : Fin 8) (a : Fin 2) : offN c h a + S512x128.size a ≤ S2048x1024.size a := by
  rw [offN_eq]; exact offs_inb_head _ h a

/-- Where the queries of the previous chunk's heads lie. -/
abbrev offP (c : Dev nD) : Fin 8 → Fin 2 → ℕ := ![k0_off14 c, k0_off15 c, k0_off16 c, k0_off17 c, k0_off18 c, k0_off19 c, k0_off20 c, k0_off21 c]
theorem offP_eq : ∀ (c : Dev nD) (h : Fin 8), offP c h = offs (prv c) h.val := by decide +kernel
theorem offP_inb (c : Dev nD) (h : Fin 8) (a : Fin 2) : offP c h a + S512x128.size a ≤ S2048x1024.size a := by
  rw [offP_eq]; exact offs_inb_head _ h a

/-- Where the queries of the own chunk's heads lie. -/
abbrev offC (c : Dev nD) : Fin 8 → Fin 2 → ℕ := ![k0_off22 c, k0_off23 c, k0_off24 c, k0_off25 c, k0_off26 c, k0_off27 c, k0_off28 c, k0_off29 c]
theorem offC_eq : ∀ (c : Dev nD) (h : Fin 8), offC c h = offs (c) h.val := by decide +kernel
theorem offC_inb (c : Dev nD) (h : Fin 8) (a : Fin 2) : offC c h a + S512x128.size a ≤ S2048x1024.size a := by
  rw [offC_eq]; exact offs_inb_head _ h a

theorem read_stg2 (f : cc0_stg2_0.ty.Contents (Elt F)) : (Memref.whole cc0_stg2_0 : Memref sig .tc _ _ _).view.readAt (Elt F)
    (Rect.unit (s := S1024x1024) ![0, 0] S1024x1024.size inb_S1024x1024_S1024x1024_0_0).toLoadRect f = f := Memref.readAt_unit_zero (Elt F) cc0_stg2_0 hz2 _ f

/-- A device's projections. -/
abbrev projsOf (c : Dev nD) : sProp 𝕄 := projs c (qRows m ρ c) (kRows m ρ c) (vRows m ρ c)
/-- The buffer of the heads' results, holding anything. -/
abbrev atAny (c : Dev nD) : sProp 𝕄 := iprop(∃ f, buf (F := F) c cc0_scratch4 f)

set_option maxHeartbeats 2000000 in
theorem opposite_run (c : Dev nD) {α : Type} {Q : α → sProp 𝕄} (v2 : BitVec 32) (K : FVec F S1024x1024 .bf16 → FVec F S512x1024 .bf16 → Vec F S512x1024 .bf16 → Prog (TpuEff nD τ sig (Elt F) Λ₀ .tc) α) :
    iprop(buf c cc0_stg2_0 (woIn m ρ c) ∗ projsOf m ρ c ∗ atAny c ∗ hasAny c paM)
      ⊢ iprop((∀ x, buf c cc0_stg2_0 (woIn m ρ c) -∗ projsOf m ρ c -∗ atAny c -∗ hasAny c paM
            -∗ wp frame (wpE (defs₀ (F := F)) 𝒱₀ (c : Thread nD τ) none) Set.univ (K (wo m ρ c) (k0_pay44 (wo m ρ c) (attn m ρ c (opp c))) x) Q)
          -∗ wp frame (wpE (defs₀ (F := F)) 𝒱₀ (c : Thread nD τ) none) Set.univ (oppositeProg c v2 K) Q) := by
  unfold oppositeProg
  simp only [k0_part8_eq_skeleton, k0_part9_eq_skeleton, k0_part10_eq_skeleton, k0_part11_eq_skeleton, k0_part12_eq_skeleton, k0_part13_eq_skeleton, k0_part14_eq_skeleton, k0_part15_eq_skeleton]
  unfold k0_part8_skel k0_part9_skel k0_part10_skel k0_part11_skel k0_part12_skel k0_part13_skel k0_part14_skel k0_part15_skel
  simp only [Prog.lift, Prog.bind_op, Prog.bind_ret, Prog.pure_eq_ret]
  iintro ⟨Hwo, Hp, Ha, ⟨%X, Hpa⟩⟩ HK
  iapply (load_whole c _ _ (read_stg2 _)) $$ [Hwo]
  · iexact Hwo
  iintro Hwo
  iapply (heads_run c (opp c) (qRows m ρ c) (kRows m ρ c) (vRows m ρ c) (offO c) (offO_eq c) (iq := offO_inb c)) $$ [Ha Hp]
  · isplitl [Ha] <;> iassumption
  iintro ⟨Ha, Hp⟩
  iapply (load_heads c (headAt (qRows m ρ c) (kRows m ρ c) (vRows m ρ c) (opp c))) $$ [Ha]
  · iexact Ha
  iintro Ha
  iapply (load_pa c X) $$ [Hpa]
  · iexact Hpa
  iintro Hpa
  iapply HK $$ [Hwo] [Hp] [Ha] [Hpa]
  · iexact Hwo
  · iexact Hp
  · iexact Ha
  iexists X; iexact Hpa

/-- What device `c` pays with, waits with and reads at for the first partial product. -/
def nextGhost (c : Dev nD) : sProp 𝕄 :=
  iprop(dutyTok ER (dmaCell c 12) 0 false ∗ dutyTok ER (dmaCell (nxt c) 15) 0 false ∗ cred (tallyAt (dmaCell c 15) () N)
    ∗ atPos ER (dmaCell c 12) 0 ∅ 0 ∗ atPos ER (dmaCell c 15) 0 ∅ 0)

set_option maxHeartbeats 2000000 in
theorem next_run (c : Dev nD) {α : Type} {Q : α → sProp 𝕄} (v2 v25 : BitVec 32) (x : Vec F S512x1024 .bf16) (K : Prog (TpuEff nD τ sig (Elt F) Λ₀ .tc) α)
    (W : Waits sig Unit) :
    iprop(Recs m ρ ∗ levAts L lv ∗ owes (c : Thread nD τ) (O₃ c) W ∗ nextGhost c ∗ projsOf m ρ c ∗ atAny c ∗ hasAny c paM ∗ hasAny (nxt c) slot0)
      ⊢ iprop(((∃ W, owes (c : Thread nD τ) (O₂ c) W) -∗ projsOf m ρ c -∗ atAny c -∗ has c paM fullShare (part1 m ρ c) -∗ has c slot0 fullShare (part0 m ρ (prv c))
            -∗ (semVal (dmaCell c 12) 0 ∗ semVal (dmaCell c 15) 0) -∗ wp frame (wpE (defs₀ (F := F)) 𝒱₀ (c : Thread nD τ) none) Set.univ K Q)
          -∗ wp frame (wpE (defs₀ (F := F)) 𝒱₀ (c : Thread nD τ) none) Set.univ (nextProg c v2 v25 (k0_pay44 (wo m ρ c) (attn m ρ c (opp c))) x (wo m ρ c) K) Q) := by
  unfold nextProg nextGhost
  simp only [k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  unfold k0_part16_skel k0_part17_skel k0_part18_skel k0_part19_skel k0_part20_skel k0_part21_skel k0_part22_skel k0_part23_skel k0_part24_skel
  simp only [Prog.lift, Prog.bind_op, Prog.bind_ret, Prog.pure_eq_ret]
  iintro ⟨#HR, #Hlev, HO, ⟨T12, T15, C15, A12, A15⟩, Hp, Ha, ⟨%X, Hpa⟩, S0⟩ HK
  iapply (store_pa c _ (part0 m ρ c) rfl X) $$ [Hpa]
  · iexact Hpa
  iintro Hpa
  iapply (send_rule m ρ c (nxt c) _ (dev6_eq c) paM slot0 paM slot0 rfl rfl _ _ 12 15 rs_send0 rs_recv0
      (by decide) (by decide) rfl fullShare (part0 m ρ c) (O₂ c) W rfl (by show _ = has (nxt c) slot0 fullShare (part0 m ρ (prv (nxt c))); rw [prv_nxt])) $$ [Hpa S0 HO T12 T15]
  · isplitr; · iexact HR
    isplitl [Hpa]; · iexact Hpa
    isplitl [S0]; · iexact S0
    isplitl [HO]; · iexact HO
    isplitl [T12] <;> iassumption
  iintro ⟨C12, HO⟩
  iapply (heads_run c (nxt c) (qRows m ρ c) (kRows m ρ c) (vRows m ρ c) (offN c) (offN_eq c) (iq := offN_inb c)) $$ [Ha Hp]
  · isplitl [Ha] <;> iassumption
  iintro ⟨Ha, Hp⟩
  iapply (load_heads c (headAt (qRows m ρ c) (kRows m ρ c) (vRows m ρ c) (nxt c))) $$ [Ha]
  · iexact Ha
  iintro Ha
  iapply (wait_rule m ρ c _ slot0 _ 15 rs_recv0 (by decide) rfl 4 (le_refl _) (O₂ c) W (above₂ c (by decide))
      (has c slot0 fullShare (part0 m ρ (prv c))) rfl) $$ [C15 HO A15]
  · isplitr; · iexact HR
    isplitr; · iexact Hlev
    isplitl [C15]; · iexact C15
    isplitl [HO] <;> iassumption
  iintro ⟨⟨%W₁, HO⟩, Z15, Hs⟩
  iapply (wait_rule m ρ c _ paM _ 12 rs_send0 (by decide) rfl 0 (le_refl _) (O₂ c) W₁ (above₂ c (by decide))
      (has c paM fullShare (part0 m ρ c)) rfl) $$ [C12 HO A12]
  · isplitr; · iexact HR
    isplitr; · iexact Hlev
    isplitl [C12]; · iexact C12
    isplitl [HO] <;> iassumption
  iintro ⟨⟨%W₂, HO⟩, Z12, Hpa⟩
  iapply (load_slot c 0 rfl fullShare (part0 m ρ (prv c))) $$ [Hs]
  · iexact Hs
  iintro Hs
  iapply (load_pa c (part0 m ρ c)) $$ [Hpa]
  · iexact Hpa
  iintro Hpa
  iapply (store_pa c _ (part1 m ρ c) rfl (part0 m ρ c)) $$ [Hpa]
  · iexact Hpa
  iintro Hpa
  iapply HK $$ [HO] [Hp] [Ha] [Hpa] [Hs]
  · iexists W₂; iexact HO
  · iexact Hp
  · iexact Ha
  · iexact Hpa
  · iexact Hs
  isplitl [Z12] <;> iassumption

set_option maxHeartbeats 2000000 in
theorem previous_run (c : Dev nD) {α : Type} {Q : α → sProp 𝕄} (v2 : BitVec 32) (K : Vec F S512x1024 .bf16 → Prog (TpuEff nD τ sig (Elt F) Λ₀ .tc) α) (W : Waits sig Unit) :
    iprop(Recs m ρ ∗ owes (c : Thread nD τ) (O₂ c) W ∗ dutyTok ER (dmaCell c 13) 0 false ∗ dutyTok ER (dmaCell (nxt c) 16) 0 false
        ∗ projsOf m ρ c ∗ atAny c ∗ has c paM fullShare (part1 m ρ c) ∗ hasAny (nxt c) slot1)
      ⊢ iprop((owes (c : Thread nD τ) (O₁ c) W -∗ cred (tallyAt (dmaCell c 13) () N) -∗ projsOf m ρ c -∗ atAny c -∗ wp frame (wpE (defs₀ (F := F)) 𝒱₀ (c : Thread nD τ) none) Set.univ (K (attn m ρ c (prv c))) Q)
          -∗ wp frame (wpE (defs₀ (F := F)) 𝒱₀ (c : Thread nD τ) none) Set.univ (previousProg c v2 K) Q) := by
  unfold previousProg
  simp only [k0_part25_eq_skeleton, k0_part26_eq_skeleton, k0_part27_eq_skeleton, k0_part28_eq_skeleton, k0_part29_eq_skeleton, k0_part30_eq_skeleton, k0_part31_eq_skeleton, k0_part32_eq_skeleton]
  unfold k0_part25_skel k0_part26_skel k0_part27_skel k0_part28_skel k0_part29_skel k0_part30_skel k0_part31_skel k0_part32_skel
  simp only [Prog.lift, Prog.bind_op, Prog.bind_ret, Prog.pure_eq_ret]
  iintro ⟨#HR, HO, T13, T16, Hp, Ha, Hpa, S1⟩ HK
  iapply (send_rule m ρ c (nxt c) _ (dev7_eq c) paM slot1 paM slot1 rfl rfl _ _ 13 16 rs_send1 rs_recv1
      (by decide) (by decide) rfl fullShare (part1 m ρ c) (O₁ c) W rfl (by show _ = has (nxt c) slot1 fullShare (part1 m ρ (prv (nxt c))); rw [prv_nxt])) $$ [Hpa S1 HO T13 T16]
  · isplitr; · iexact HR
    isplitl [Hpa]; · iexact Hpa
    isplitl [S1]; · iexact S1
    isplitl [HO]; · iexact HO
    isplitl [T13] <;> iassumption
  iintro ⟨C13, HO⟩
  iapply (heads_run c (prv c) (qRows m ρ c) (kRows m ρ c) (vRows m ρ c) (offP c) (offP_eq c) (iq := offP_inb c)) $$ [Ha Hp]
  · isplitl [Ha] <;> iassumption
  iintro ⟨Ha, Hp⟩
  iapply (load_heads c (headAt (qRows m ρ c) (kRows m ρ c) (vRows m ρ c) (prv c))) $$ [Ha]
  · iexact Ha
  iintro Ha
  iapply HK $$ [HO] [C13] [Hp] [Ha]
  · iexact HO
  · iexact C13
  · iexact Hp
  iexact Ha

/-- What device `c` pays with, waits with and reads at for the last partial product and the sum. -/
def ownGhost (c : Dev nD) : sProp 𝕄 :=
  iprop(dutyTok ER (dmaCell c 14) 0 false ∗ dutyTok ER (dmaCell (prv c) 17) 0 false
    ∗ (cred (tallyAt (dmaCell c 13) () N) ∗ cred (tallyAt (dmaCell c 16) () N) ∗ cred (tallyAt (dmaCell c 17) () N))
    ∗ (atPos ER (dmaCell c 13) 0 ∅ 0 ∗ atPos ER (dmaCell c 14) 0 ∅ 0 ∗ atPos ER (dmaCell c 16) 0 ∅ 0 ∗ atPos ER (dmaCell c 17) 0 ∅ 0))

set_option maxHeartbeats 2000000 in
theorem own_run (c : Dev nD) {Q : PUnit → sProp 𝕄} (v2 v14 v25 : BitVec 32) (W : Waits sig Unit) (fo : S512x1024.Idx → Elt F .f32) :
    iprop(Recs m ρ ∗ levAts L lv ∗ owes (c : Thread nD τ) (O₁ c) W ∗ ownGhost c ∗ projsOf m ρ c ∗ atAny c ∗ hasAny c pbM ∗ hasAny (prv c) slot2 ∗ buf c cc0_stg5_0 fo)
      ⊢ iprop(((∃ W, owes (c : Thread nD τ) 0 W) -∗ projsOf m ρ c -∗ atAny c
            -∗ (has c paM fullShare (part1 m ρ c) ∗ has c pbM fullShare (part2 m ρ c) ∗ has c slot1 fullShare (part1 m ρ (prv c)) ∗ has c slot2 fullShare (part2 m ρ (nxt c)))
            -∗ (semVal (dmaCell c 13) 0 ∗ semVal (dmaCell c 14) 0 ∗ semVal (dmaCell c 16) 0 ∗ semVal (dmaCell c 17) 0)
            -∗ buf c cc0_stg5_0 (outAt m ρ c) -∗ Q ⟨⟩)
          -∗ wp frame (wpE (defs₀ (F := F)) 𝒱₀ (c : Thread nD τ) none) Set.univ (ownProg c v2 v14 (wo m ρ c) (attn m ρ c (prv c)) v25) Q) := by
  unfold ownProg ownGhost
  simp only [k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
  unfold k0_part33_skel k0_part34_skel k0_part35_skel k0_part36_skel k0_part37_skel k0_part38_skel k0_part39_skel k0_part40_skel k0_part41_skel
  simp only [Prog.lift, Prog.bind_op, Prog.bind_ret, Prog.pure_eq_ret]
  iintro ⟨#HR, #Hlev, HO, ⟨T14, T17, ⟨C13, C16, C17⟩, ⟨A13, A14, A16, A17⟩⟩, Hp, Ha, ⟨%X, Hpb⟩, S2, Hout⟩ HK
  iapply (refill_pb c _ (part2 m ρ c) rfl X) $$ [Hpb]
  · iexact Hpb
  iintro Hpb
  iapply (send_rule m ρ c (prv c) _ (dev8_eq c) pbM slot2 pbM slot2 rfl rfl _ _ 14 17 rs_send2 rs_recv2
      (by decide) (by decide) rfl fullShare (part2 m ρ c) (0) W rfl (by show _ = has (prv c) slot2 fullShare (part2 m ρ (nxt (prv c))); rw [nxt_prv])) $$ [Hpb S2 HO T14 T17]
  · isplitr; · iexact HR
    isplitl [Hpb]; · iexact Hpb
    isplitl [S2]; · iexact S2
    isplitl [HO]; · iexact HO
    isplitl [T14] <;> iassumption
  iintro ⟨C14, HO⟩
  iapply (heads_run c (c) (qRows m ρ c) (kRows m ρ c) (vRows m ρ c) (offC c) (offC_eq c) (iq := offC_inb c)) $$ [Ha Hp]
  · isplitl [Ha] <;> iassumption
  iintro ⟨Ha, Hp⟩
  iapply (load_heads c (headAt (qRows m ρ c) (kRows m ρ c) (vRows m ρ c) (c))) $$ [Ha]
  · iexact Ha
  iintro Ha
  iapply (wait_rule m ρ c _ slot1 _ 16 rs_recv1 (by decide) rfl 5 (le_refl _) (0) W (Above.zero _)
      (has c slot1 fullShare (part1 m ρ (prv c))) rfl) $$ [C16 HO A16]
  · isplitr; · iexact HR
    isplitr; · iexact Hlev
    isplitl [C16]; · iexact C16
    isplitl [HO] <;> iassumption
  iintro ⟨⟨%W₁, HO⟩, Z16, H1⟩
  iapply (wait_rule m ρ c _ slot2 _ 17 rs_recv2 (by decide) rfl 5 (le_refl _) (0) W₁ (Above.zero _)
      (has c slot2 fullShare (part2 m ρ (nxt c))) rfl) $$ [C17 HO A17]
  · isplitr; · iexact HR
    isplitr; · iexact Hlev
    isplitl [C17]; · iexact C17
    isplitl [HO] <;> iassumption
  iintro ⟨⟨%W₂, HO⟩, Z17, H2⟩
  iapply (load_slot c 1 rfl fullShare (part1 m ρ (prv c))) $$ [H1]
  · iexact H1
  iintro H1
  iapply (load_slot c 2 rfl fullShare (part2 m ρ (nxt c))) $$ [H2]
  · iexact H2
  iintro H2
  iapply (refill_out c _ (outAt m ρ c) rfl fo) $$ [Hout]
  · iexact Hout
  iintro Hout
  iapply (wait_rule m ρ c _ paM _ 13 rs_send1 (by decide) rfl 0 (le_refl _) (0) W₂ (Above.zero _)
      (has c paM fullShare (part1 m ρ c)) rfl) $$ [C13 HO A13]
  · isplitr; · iexact HR
    isplitr; · iexact Hlev
    isplitl [C13]; · iexact C13
    isplitl [HO] <;> iassumption
  iintro ⟨⟨%W₃, HO⟩, Z13, Hpa⟩
  iapply (wait_rule m ρ c _ pbM _ 14 rs_send2 (by decide) rfl 0 (le_refl _) (0) W₃ (Above.zero _)
      (has c pbM fullShare (part2 m ρ c)) rfl) $$ [C14 HO A14]
  · isplitr; · iexact HR
    isplitr; · iexact Hlev
    isplitl [C14]; · iexact C14
    isplitl [HO] <;> iassumption
  iintro ⟨⟨%W₄, HO⟩, Z14, Hpb⟩
  rw [wp_ret]; imodintro
  iapply HK $$ [HO] [Hp] [Ha] [Hpa Hpb H1 H2] [Z13 Z14 Z16 Z17]
  · iexists W₄; iexact HO
  · iexact Hp
  · iexact Ha
  · isplitl [Hpa]; · iexact Hpa
    isplitl [Hpb]; · iexact Hpb
    isplitl [H1]; · iexact H1
    iexact H2
  · isplitl [Z13]; · iexact Z13
    isplitl [Z14]; · iexact Z14
    isplitl [Z16] <;> iassumption
  iexact Hout

end Cert.Ring
-- ==== Proof.Body.lean ====
/-
The stages in order: what the grid point of device `c` starts from and what it leaves.
-/
module

public import proofs.«01_k».proof.Proof.Products

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The duties device `c` pays: its neighbours' barrier cells, its own send cells, its neighbours' receive cells. -/
def payToks (c : Dev nD) : sProp 𝕄 :=
  iprop(dutyTok ER (barCell (prv c)) 0 false ∗ dutyTok ER (barCell (nxt c)) 0 true
    ∗ dutyTok ER (dmaCell c 6) 0 false ∗ dutyTok ER (dmaCell c 7) 0 false ∗ dutyTok ER (dmaCell c 8) 0 false
    ∗ dutyTok ER (dmaCell (nxt c) 9) 0 false ∗ dutyTok ER (dmaCell (prv c) 10) 0 false ∗ dutyTok ER (dmaCell (nxt c) 11) 0 false
    ∗ dutyTok ER (dmaCell c 12) 0 false ∗ dutyTok ER (dmaCell c 13) 0 false ∗ dutyTok ER (dmaCell c 14) 0 false
    ∗ dutyTok ER (dmaCell (nxt c) 15) 0 false ∗ dutyTok ER (dmaCell (nxt c) 16) 0 false ∗ dutyTok ER (dmaCell (prv c) 17) 0 false)

/-- Its place at each of its cells. -/
def atAll (c : Dev nD) : sProp 𝕄 := bigSep Finset.univ fun k : Fin 13 => atPos ER (kcell (c, k)) 0 ∅ 0

/-- What it is owed at launch. -/
def creds (c : Dev nD) : sProp 𝕄 :=
  iprop(cred (tallyAt (barCell c) () 2) ∗ cred (tallyAt (dmaCell c 9) () N) ∗ cred (tallyAt (dmaCell c 10) () N) ∗ cred (tallyAt (dmaCell c 11) () N)
    ∗ cred (tallyAt (dmaCell c 15) () N) ∗ cred (tallyAt (dmaCell c 16) () N) ∗ cred (tallyAt (dmaCell c 17) () N))

/-- Its cells' counters at zero: the barrier's, and the twelve transfers'. -/
def closed (c : Dev nD) : sProp 𝕄 :=
  iprop(semVal (barCell c) 0 ∗ semVal (dmaCell c 6) 0 ∗ semVal (dmaCell c 7) 0 ∗ semVal (dmaCell c 8) 0 ∗ semVal (dmaCell c 9) 0 ∗ semVal (dmaCell c 10) 0
    ∗ semVal (dmaCell c 11) 0 ∗ semVal (dmaCell c 12) 0 ∗ semVal (dmaCell c 13) 0 ∗ semVal (dmaCell c 14) 0 ∗ semVal (dmaCell c 15) 0 ∗ semVal (dmaCell c 16) 0
    ∗ semVal (dmaCell c 17) 0)

/-- Its scratch buffers, holding anything. -/
def scratch (c : Dev nD) : sProp 𝕄 :=
  iprop((∃ f, buf (F := F) c cc0_scratch0 f) ∗ (∃ f, buf (F := F) c cc0_scratch1 f) ∗ (∃ f, buf (F := F) c cc0_scratch2 f) ∗ (∃ f, buf (F := F) c cc0_scratch3 f)
    ∗ (∃ f, buf (F := F) c cc0_scratch4 f) ∗ (∃ f, buf (F := F) c cc0_scratch5 f) ∗ (∃ f, buf (F := F) c cc0_scratch6 f) ∗ (∃ f, buf (F := F) c cc0_scratch7 f))

def start (c : Dev nD) : sProp 𝕄 := iprop((Recs m ρ ∗ atAll c ∗ payToks c) ∗ creds c ∗ levAts L lv)

def Φ₀ (c : Dev nD) : sProp 𝕄 := iprop(start m ρ c ∗ scratch c)
def Φ₁ (c : Dev nD) : sProp 𝕄 := iprop(scratch (F := F) c ∗ closed c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m ρ c
    | ⟨1, _⟩ => wqIn m ρ c
    | ⟨2, _⟩ => woIn m ρ c
    | ⟨3, _⟩ => wkIn m ρ c
    | ⟨4, _⟩ => wvIn m ρ c
    | ⟨5, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ
    = iprop(Φ (0 : Fin 6) ∗ Φ (1 : Fin 6) ∗ Φ (2 : Fin 6) ∗ Φ (3 : Fin 6) ∗ Φ (4 : Fin 6) ∗ Φ (5 : Fin 6)) := bigSep_W0 Φ

theorem fetch_in (w : Fin cfg0.W) (hw : w.val < 5) (t : Fin cfg0.N) : (cfg0.win w).fetch t = true := by
  rw [fin_N t]; revert hw; revert w; decide

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ buf c b f) := by
  unfold owns; simp only [Memref.view_whole, View.read_whole, View.set_whole]

/-- A window's staging buffer at contents `X`. -/
abbrev stg (c : Dev nD) (b : Ref sig .tc) (X : b.ty.Contents (Elt F)) : sProp 𝕄 := iprop(∃ f : Buf (Elt F) ((c : Thread nD τ).loc b), ⌜f = X⌝ ∗ buf c b f)

/-! ## The body -/

/-- The ghost state of the four products, dealt from the launch's. -/
def productGhost (c : Dev nD) : sProp 𝕄 :=
  iprop(nextGhost (F := F) c ∗ (dutyTok ER (dmaCell c 13) 0 false ∗ dutyTok ER (dmaCell (nxt c) 16) 0 false) ∗ (cred (tallyAt (dmaCell c 13) () N) -∗ ownGhost (F := F) c))

theorem deal (c : Dev nD) : iprop(atAll (F := F) c ∗ payToks (F := F) c ∗ creds (F := F) c) ⊢ iprop(gatherGhost (F := F) c ∗ productGhost (F := F) c) := by
  have hat : (atAll (F := F) c : sProp 𝕄) = iprop(atPos ER (barCell c) 0 ∅ 0 ∗ atPos ER (dmaCell c 6) 0 ∅ 0 ∗ atPos ER (dmaCell c 7) 0 ∅ 0 ∗ atPos ER (dmaCell c 8) 0 ∅ 0
      ∗ atPos ER (dmaCell c 9) 0 ∅ 0 ∗ atPos ER (dmaCell c 10) 0 ∅ 0 ∗ atPos ER (dmaCell c 11) 0 ∅ 0 ∗ atPos ER (dmaCell c 12) 0 ∅ 0 ∗ atPos ER (dmaCell c 13) 0 ∅ 0
      ∗ atPos ER (dmaCell c 14) 0 ∅ 0 ∗ atPos ER (dmaCell c 15) 0 ∅ 0 ∗ atPos ER (dmaCell c 16) 0 ∅ 0 ∗ atPos ER (dmaCell c 17) 0 ∅ 0) := by
    unfold atAll
    exact bigSep_univ_eq_bigSepL [0, 1, 2, 3, 4, 5, 6, 7, 8, 9, 10, 11, 12] (by decide) (by decide) _
  rw [hat]
  unfold payToks creds productGhost gatherGhost nextGhost ownGhost
  iintro ⟨⟨AB, A6, A7, A8, A9, A10, A11, A12, A13, A14, A15, A16, A17⟩,
    ⟨TbP, TbN, T6, T7, T8, T9, T10, T11, T12, T13, T14, T15, T16, T17⟩, ⟨CB, C9, C10, C11, C15, C16, C17⟩⟩
  isplitl [TbP TbN T6 T7 T8 T9 T10 T11 CB C9 C10 C11 AB A6 A7 A8 A9 A10 A11]
  · isplitl [TbP]; · iexact TbP
    isplitl [TbN]; · iexact TbN
    isplitl [T6 T7 T8]
    · isplitl [T6]; · iexact T6
      isplitl [T7]; · iexact T7
      iexact T8
    isplitl [T9 T10 T11]
    · isplitl [T9]; · iexact T9
      isplitl [T10]; · iexact T10
      iexact T11
    isplitl [CB C9 C10 C11]
    · isplitl [CB]; · iexact CB
      isplitl [C9]; · iexact C9
      isplitl [C10]; · iexact C10
      iexact C11
    isplitl [AB]; · iexact AB
    isplitl [A6]; · iexact A6
    isplitl [A7]; · iexact A7
    isplitl [A8]; · iexact A8
    isplitl [A9]; · iexact A9
    isplitl [A10]; · iexact A10
    iexact A11
  isplitl [T12 T15 C15 A12 A15]
  · isplitl [T12]; · iexact T12
    isplitl [T15]; · iexact T15
    isplitl [C15]; · iexact C15
    isplitl [A12]; · iexact A12
    iexact A15
  isplitl [T13 T16]
  · isplitl [T13]; · iexact T13
    iexact T16
  iintro C13
  isplitl [T14]; · iexact T14
  isplitl [T17]; · iexact T17
  isplitl [C13 C16 C17]
  · isplitl [C13]; · iexact C13
    isplitl [C16]; · iexact C16
    iexact C17
  isplitl [A13]; · iexact A13
  isplitl [A14]; · iexact A14
  isplitl [A16]; · iexact A16
  iexact A17

def bodyPre (c : Dev nD) : sProp 𝕄 :=
  iprop(Φ₀ m ρ c ∗ (dats m ρ 0 c).owesAt () t₀.castSucc
    ∗ (∃ d, stg c cc0_stg0_0 ((dats m ρ 0 c).before (0 : Fin 6) t₀ d)) ∗ (∃ d, stg c cc0_stg1_0 ((dats m ρ 0 c).before (1 : Fin 6) t₀ d))
    ∗ (∃ d, stg c cc0_stg2_0 ((dats m ρ 0 c).before (2 : Fin 6) t₀ d)) ∗ (∃ d, stg c cc0_stg3_0 ((dats m ρ 0 c).before (3 : Fin 6) t₀ d))
    ∗ (∃ d, stg c cc0_stg4_0 ((dats m ρ 0 c).before (4 : Fin 6) t₀ d)) ∗ (∃ d, stg c cc0_stg5_0 ((dats m ρ 0 c).before (5 : Fin 6) t₀ d)))

def bodyPost (c : Dev nD) : sProp 𝕄 :=
  iprop(Φ₁ (F := F) c ∗ (dats m ρ 0 c).owesAt () t₀.succ ∗ stg c cc0_stg0_0 (xin m ρ c) ∗ stg c cc0_stg1_0 (wqIn m ρ c) ∗ stg c cc0_stg2_0 (woIn m ρ c)
    ∗ stg c cc0_stg3_0 (wkIn m ρ c) ∗ stg c cc0_stg4_0 (wvIn m ρ c) ∗ stg c cc0_stg5_0 (outAt m ρ c))

set_option maxHeartbeats 1000000 in
/-- The stages one after the other. -/
theorem stages_run (c : Dev nD) (W : Waits sig Unit) (fo : S512x1024.Idx → Elt F .f32) (Q : PUnit → sProp 𝕄) :
    iprop(start m ρ c ∗ scratch (F := F) c ∗ owes (c : Thread nD τ) (O₀ c) W ∗ args m ρ c ∗ buf c cc0_stg5_0 fo)
      ⊢ iprop((Φ₁ (F := F) c -∗ (∃ W, owes (c : Thread nD τ) 0 W) -∗ args m ρ c -∗ buf c cc0_stg5_0 (outAt m ρ c) -∗ Q ⟨⟩)
        -∗ wp frame (wpE (defs₀ (F := F)) 𝒱₀ (c : Thread nD τ) none) Set.univ
          (gatherProg (fun d0 v2 v14 v25 => oppositeProg d0 v2 (fun v240 v527 v528 => nextProg d0 v2 v25 v527 v528 v240 (previousProg d0 v2 (fun v1136 =>
            ownProg d0 v2 v14 v240 v1136 v25))))) Q) := by
  unfold start scratch
  iintro ⟨⟨⟨#HR, Hat, Htok⟩, Hcr, #Hlev⟩, ⟨H0, H1, H2, H3, H4, ⟨%f5, H5⟩, ⟨%f6, H6⟩, H7⟩, HO, Hargs, Hout⟩ HK
  ihave Hd := (deal (F := F) c) $$ [Hat Htok Hcr]
  · isplitl [Hat]; · iexact Hat
    isplitl [Htok]; · iexact Htok
    iexact Hcr
  unfold productGhost
  icases Hd with ⟨Hg, Hn, ⟨T13, T16⟩, Ho⟩
  iapply (gather_run m ρ c _ W) $$ [HO Hg Hargs H0 H1 H2 H3 H7]
  · isplitr; · iexact HR
    isplitr; · iexact Hlev
    isplitl [HO]; · iexact HO
    isplitl [Hg]; · iexact Hg
    isplitl [Hargs]; · iexact Hargs
    unfold gatherMem
    isplitl [H0]; · iexact H0
    isplitl [H1]; · iexact H1
    isplitl [H2]; · iexact H2
    isplitl [H3]; · iexact H3
    iexact H7
  iintro %v2 %v14 %v25 ⟨%W₁, HO⟩ Hargs Hpost
  unfold gatherPost args
  icases Hpost with ⟨H0, H1, H2, H3, ⟨S0, S1, S2⟩, ⟨ZB, Z6, Z7, Z8, Z9, Z10, Z11⟩⟩
  icases Hargs with ⟨Hx, Hwq, Hwo, Hwk, Hwv⟩
  ihave H5 := (Entails.of_eq (owns_whole (Ix := Unit) (Name := ℕ) (U := UU) (Lvl := ℕ) (c : Thread nD τ) cc0_scratch5 fullShare f5).symm) $$ H5
  ihave H6 := (Entails.of_eq (owns_whole (Ix := Unit) (Name := ℕ) (U := UU) (Lvl := ℕ) (c : Thread nD τ) cc0_scratch6 fullShare f6).symm) $$ H6
  iapply (opposite_run m ρ c v2 _) $$ [Hwo H1 H2 H3 H4 H5]
  · isplitl [Hwo]; · iexact Hwo
    isplitl [H1 H2 H3]
    · unfold projsOf projs
      isplitl [H1]; · iexact H1
      isplitl [H2]; · iexact H2
      iexact H3
    isplitl [H4]; · iexact H4
    iexists f5; iexact H5
  iintro %x Hwo Hp H4 H5
  iapply (next_run m ρ c v2 v25 x _ W₁) $$ [HO Hn Hp H4 H5 S0]
  · isplitr; · iexact HR
    isplitr; · iexact Hlev
    isplitl [HO]; · iexact HO
    isplitl [Hn]; · iexact Hn
    isplitl [Hp]; · iexact Hp
    isplitl [H4]; · iexact H4
    isplitl [H5]; · iexact H5
    iexact S0
  iintro ⟨%W₂, HO⟩ Hp H4 H5 R0 ⟨Z12, Z15⟩
  iapply (previous_run m ρ c v2 _ W₂) $$ [HO T13 T16 Hp H4 H5 S1]
  · isplitr; · iexact HR
    isplitl [HO]; · iexact HO
    isplitl [T13]; · iexact T13
    isplitl [T16]; · iexact T16
    isplitl [Hp]; · iexact Hp
    isplitl [H4]; · iexact H4
    isplitl [H5]; · iexact H5
    iexact S1
  iintro HO C13 Hp H4
  ihave Ho := Ho $$ C13
  iapply (own_run m ρ c v2 v14 v25 W₂ fo) $$ [HO Ho Hp H4 H6 S2 Hout]
  · isplitr; · iexact HR
    isplitr; · iexact Hlev
    isplitl [HO]; · iexact HO
    isplitl [Ho]; · iexact Ho
    isplitl [Hp]; · iexact Hp
    isplitl [H4]; · iexact H4
    isplitl [H6]; · iexists f6; iexact H6
    isplitl [S2]; · iexact S2
    iexact Hout
  iintro HO Hp H4 ⟨H5, H6, R1, R2⟩ ⟨Z13, Z14, Z16, Z17⟩ Hout
  ihave H5 := (Entails.of_eq (owns_whole (Ix := Unit) (Name := ℕ) (U := UU) (Lvl := ℕ) (c : Thread nD τ) cc0_scratch5 fullShare (part1 m ρ c))) $$ H5
  ihave H6 := (Entails.of_eq (owns_whole (Ix := Unit) (Name := ℕ) (U := UU) (Lvl := ℕ) (c : Thread nD τ) cc0_scratch6 fullShare (part2 m ρ c))) $$ H6
  ihave H7 := (slots_join c ![part0 m ρ (prv c), part1 m ρ (prv c), part2 m ρ (nxt c)]) $$ [R0 R1 R2]
  · isplitl [R0]; · iexact R0
    isplitl [R1]; · iexact R1
    iexact R2
  icases H7 with ⟨%f7, H7⟩
  ihave H7 := (Entails.of_eq (owns_whole (Ix := Unit) (Name := ℕ) (U := UU) (Lvl := ℕ) (c : Thread nD τ) cc0_scratch7 fullShare f7)) $$ H7
  unfold projsOf projs
  icases Hp with ⟨H1, H2, H3⟩
  iapply HK $$ [H0 H1 H2 H3 H4 H5 H6 H7 ZB Z6 Z7 Z8 Z9 Z10 Z11 Z12 Z13 Z14 Z15 Z16 Z17] [HO] [Hx Hwq Hwo Hwk Hwv] [Hout]
  · unfold Φ₁ scratch closed
    isplitl [H0 H1 H2 H3 H4 H5 H6 H7]
    · isplitl [H0]; · iexact H0
      isplitl [H1]; · iexists _; iexact H1
      isplitl [H2]; · iexists _; iexact H2
      isplitl [H3]; · iexists _; iexact H3
      isplitl [H4]; · iexact H4
      isplitl [H5]; · iexists _; iexact H5
      isplitl [H6]; · iexists _; iexact H6
      iexists _; iexact H7
    isplitl [ZB]; · iexact ZB
    isplitl [Z6]; · iexact Z6
    isplitl [Z7]; · iexact Z7
    isplitl [Z8]; · iexact Z8
    isplitl [Z9]; · iexact Z9
    isplitl [Z10]; · iexact Z10
    isplitl [Z11]; · iexact Z11
    isplitl [Z12]; · iexact Z12
    isplitl [Z13]; · iexact Z13
    isplitl [Z14]; · iexact Z14
    isplitl [Z15]; · iexact Z15
    isplitl [Z16]; · iexact Z16
    iexact Z17
  · iexact HO
  · isplitl [Hx]; · iexact Hx
    isplitl [Hwq]; · iexact Hwq
    isplitl [Hwo]; · iexact Hwo
    isplitl [Hwk]; · iexact Hwk
    iexact Hwv
  · iexact Hout

/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ
    (cc0__body (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      (Memref.whole cc0_scratch6) (Memref.isWhole_whole _) (Memref.whole cc0_scratch7) (Memref.isWhole_whole _) cc0_scratch8 cc0_scratch9 cc0_scratch10 cc0_scratch11)
    (fun _ => bodyPost m ρ c)
  rw [body_eq]
  unfold bodyPre Φ₀ Dat.owesAt Pipeline.owesWithin
  iintro ⟨⟨Hs, Hm⟩, ⟨%W, %hW, HO⟩, ⟨%d0, %g0, %hg0, Hx⟩, ⟨%d1, %g1, %hg1, Hwq⟩, ⟨%d2, %g2, %hg2, Hwo⟩, ⟨%d3, %g3, %hg3, Hwk⟩, ⟨%d4, %g4, %hg4, Hwv⟩, ⟨%d5, %g5, %hg5, Hout⟩⟩
  have h0 : g0 = xin m ρ c := by rw [hg0]; unfold Dat.before; rw [if_pos (fetch_in 0 (by decide) t₀)]; rfl
  have h1 : g1 = wqIn m ρ c := by rw [hg1]; unfold Dat.before; rw [if_pos (fetch_in 1 (by decide) t₀)]; rfl
  have h2 : g2 = woIn m ρ c := by rw [hg2]; unfold Dat.before; rw [if_pos (fetch_in 2 (by decide) t₀)]; rfl
  have h3 : g3 = wkIn m ρ c := by rw [hg3]; unfold Dat.before; rw [if_pos (fetch_in 3 (by decide) t₀)]; rfl
  have h4 : g4 = wvIn m ρ c := by rw [hg4]; unfold Dat.before; rw [if_pos (fetch_in 4 (by decide) t₀)]; rfl
  subst h0 h1 h2 h3 h4
  rw [show (dats m ρ 0 c).owed t₀.castSucc = O₀ c from rfl]
  iapply (stages_run m ρ c W g5) $$ [Hs Hm HO Hx Hwq Hwo Hwk Hwv Hout]
  · isplitl [Hs]; · iexact Hs
    isplitl [Hm]; · iexact Hm
    isplitl [HO]; · iexact HO
    isplitr [Hout]
    · unfold args
      isplitl [Hx]; · iexact Hx
      isplitl [Hwq]; · iexact Hwq
      isplitl [Hwo]; · iexact Hwo
      isplitl [Hwk]; · iexact Hwk
      iexact Hwv
    iexact Hout
  iintro HΦ ⟨%W', HO⟩ Hargs Hout
  unfold bodyPost Dat.owesAt Pipeline.owesWithin args
  rw [show (dats m ρ 0 c).owed t₀.succ = 0 from rfl]
  icases Hargs with ⟨Hx, Hwq, Hwo, Hwk, Hwv⟩
  isplitl [HΦ]; · iexact HΦ
  isplitl [HO]
  · iexists W'
    isplitr; · ipureintro; exact fun _ _ => Or.inl trivial
    iexact HO
  isplitl [Hx]
  · iexists _; isplitr; · (ipureintro; rfl)
    iexact Hx
  isplitl [Hwq]
  · iexists _; isplitr; · (ipureintro; rfl)
    iexact Hwq
  isplitl [Hwo]
  · iexists _; isplitr; · (ipureintro; rfl)
    iexact Hwo
  isplitl [Hwk]
  · iexists _; isplitr; · (ipureintro; rfl)
    iexact Hwk
  isplitl [Hwv]
  · iexists _; isplitr; · (ipureintro; rfl)
    iexact Hwv
  iexists _; isplitr; · (ipureintro; rfl)
  iexact Hout

end Cert.Ring
-- ==== Proof.Launch.lean ====
/-
The launch: the ring's cells and tokens dealt to the devices, and the run of the four of them.
-/
module

public import proofs.«01_k».proof.Proof.Body
public import Idealize.ShloMosaic.Lib.Pipeline.CollectiveSegs

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The ring's cells and tokens at launch -/

/-- The kernel's own semaphores, as the launch theorem indexes them. -/
def osem (k : Fin 12) : SemLoc sig := .dma ⟨6 + k.val, by have := k.isLt; show 6 + k.val < 18; omega⟩

theorem ownSemFacts : Pipeline.OwnSemFacts cfg0.spec osem := by decide

theorem share_eq (c : Dev nD) (w : Fin cfg0.W) : (dats m ρ 0 c).share w = fullShare := by unfold Dat.share; split <;> rfl

theorem csem_injective : ∀ k k' : Fin 13, csem k = csem k' → k = k' := by decide

theorem kcell_injective : Function.Injective kcell := by
  rintro ⟨c, k⟩ ⟨c', k'⟩ h
  have hc : c = c' := congrArg (fun g : GSem nD τ sig => g.1.1) h
  have hk : k = k' := csem_injective k k' (congrArg Prod.snd h)
  rw [hc, hk]
def ringCells : Finset (GSem nD τ sig) := Finset.univ.map ⟨kcell, kcell_injective⟩

/-- A duty of a device's own cells: the barrier's two, then each transfer's one. -/
def tokOf (p : Dev nD × Fin 14) : GSem nD τ sig × ℕ × Bool :=
  (kcell (p.1, ⟨p.2.val - 1, by have := p.2.isLt; omega⟩), 0, Nat.beq p.2.val 1)
theorem tokOf_injective : Function.Injective tokOf := by
  rintro ⟨c, j⟩ ⟨c', j'⟩ h
  have h₁ := kcell_injective (congrArg (fun x : GSem nD τ sig × ℕ × Bool => x.1) h)
  have h₂ : Nat.beq j.val 1 = Nat.beq j'.val 1 := congrArg (fun x : GSem nD τ sig × ℕ × Bool => x.2.2) h
  have hc : c = c' := congrArg Prod.fst h₁
  have hv : j.val - 1 = j'.val - 1 := congrArg (fun p : Dev nD × Fin 13 => p.2.val) h₁
  have hj : j = j' := Fin.ext (by
    have h : j.val = 1 ↔ j'.val = 1 := by rw [← Nat.beq_eq, ← Nat.beq_eq, h₂]
    omega)
  rw [hc, hj]
def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

/-- The tokens of device `c`'s own cells. -/
def toks (c : Dev nD) : sProp 𝕄 :=
  iprop(dutyTok ER (barCell c) 0 false ∗ dutyTok ER (barCell c) 0 true
    ∗ dutyTok ER (dmaCell c 6) 0 false ∗ dutyTok ER (dmaCell c 7) 0 false ∗ dutyTok ER (dmaCell c 8) 0 false
    ∗ dutyTok ER (dmaCell c 9) 0 false ∗ dutyTok ER (dmaCell c 10) 0 false ∗ dutyTok ER (dmaCell c 11) 0 false
    ∗ dutyTok ER (dmaCell c 12) 0 false ∗ dutyTok ER (dmaCell c 13) 0 false ∗ dutyTok ER (dmaCell c 14) 0 false
    ∗ dutyTok ER (dmaCell c 15) 0 false ∗ dutyTok ER (dmaCell c 16) 0 false ∗ dutyTok ER (dmaCell c 17) 0 false)

theorem tokOf_dma (c : Dev nD) (q : DmaSem sig) (k : Fin 14) (hq : 6 ≤ q.val) (hk : k.val + 4 = q.val) : tokOf (c, k) = (dmaCell c q, 0, false) := by
  unfold tokOf kcell csem
  have h₁ : ¬ (k.val - 1 = 0) := by omega
  have h₂ : Nat.beq k.val 1 = false := Bool.eq_false_iff.mpr fun h => by have := Nat.eq_of_beq_eq_true h; omega
  simp only [h₁, dite_false, h₂]
  refine congrArg (fun s : SemLoc sig => (((c : Thread nD τ), s), 0, false)) (congrArg SemLoc.dma (Fin.ext ?_))
  show 5 + (k.val - 1) = q.val
  omega

/-- The token of a pair. -/
abbrev tokAt (x : GSem nD τ sig × ℕ × Bool) : sProp 𝕄 := dutyTok ER x.1 x.2.1 x.2.2

theorem toks_eq (c : Dev nD) : (bigSep Finset.univ fun k : Fin 14 => tokAt (tokOf (c, k)) : sProp 𝕄) = toks c := by
  have h := bigSep_univ_eq_bigSepL [0, 1, 2, 3, 4, 5, 6, 7, 8, 9, 10, 11, 12, 13] (by decide) (by decide) fun k : Fin 14 => (tokAt (F := F) (tokOf (c, k)))
  simp only [bigSepL_cons_cons, bigSepL_singleton] at h
  have d (q : DmaSem sig) (k : Fin 14) (hq : 6 ≤ q.val) (hk : k.val + 4 = q.val) := tokOf_dma c q k hq hk
  rw [h, show tokOf (c, 0) = (barCell c, 0, false) from rfl, show tokOf (c, 1) = (barCell c, 0, true) from rfl,
    d 6 2 (by decide) rfl, d 7 3 (by decide) rfl, d 8 4 (by decide) rfl, d 9 5 (by decide) rfl, d 10 6 (by decide) rfl, d 11 7 (by decide) rfl,
    d 12 8 (by decide) rfl, d 13 9 (by decide) rfl, d 14 10 (by decide) rfl, d 15 11 (by decide) rfl, d 16 12 (by decide) rfl, d 17 13 (by decide) rfl]
  rfl

/-- What the launch element deals device `c`, -/
def G (c : Dev nD) : sProp 𝕄 :=
  iprop((bigSep Finset.univ fun k : Fin 13 => iprop(roundState ER (ringRd m ρ) (kcell (c, k)) 0 ∗ reached ER (kcell (c, k)) 0)) ∗ atAll (F := F) c ∗ toks (F := F) c)
/-- and what it holds once every cell's invariant is made. -/
def G' (c : Dev nD) : sProp 𝕄 := iprop(Recs m ρ ∗ atAll (F := F) c ∗ payToks (F := F) c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 13 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod]
    exact bigSep_congr fun c _ => toks_eq c
  iintro HX
  imod (Rounds.fund ER (ringRd m ρ) ringCells ringToks) $$ HX with ⟨Hst, Hr, Hat, Htok⟩
  imodintro
  ihave Hst := (Entails.of_eq (hX fun g => roundState ER (ringRd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G atAll; simp only [bigSep_sep']
  isplitl [Hst Hr]
  · isplitl [Hst]; · iexact Hst
    iexact Hr
  isplitl [Hat]; · iexact Hat
  iexact Htok

/-! ## The invariants -/

theorem ownSems0_eq (c : Dev nD) : (Pipeline.ownSems0 (Ix := Unit) (Name := ℕ) (U := UU) (Lvl := ℕ) (Val := Elt F) (τ := τ) osem c : sProp 𝕄)
    = iprop(semVal (dmaCell c 6) 0 ∗ semVal (dmaCell c 7) 0 ∗ semVal (dmaCell c 8) 0 ∗ semVal (dmaCell c 9) 0 ∗ semVal (dmaCell c 10) 0
    ∗ semVal (dmaCell c 11) 0 ∗ semVal (dmaCell c 12) 0 ∗ semVal (dmaCell c 13) 0 ∗ semVal (dmaCell c 14) 0 ∗ semVal (dmaCell c 15) 0 ∗ semVal (dmaCell c 16) 0
    ∗ semVal (dmaCell c 17) 0) := by
  rw [Pipeline.ownSems0_eq_of_list c osem [0, 1, 2, 3, 4, 5, 6, 7, 8, 9, 10, 11] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 13 => semVal (kcell (c, k)) 0 : sProp 𝕄) := by
  rw [show (bigSep Finset.univ fun k : Fin 13 => semVal (kcell (c, k)) 0 : sProp 𝕄) = closed c by
    unfold closed; exact bigSep_univ_eq_bigSepL [0, 1, 2, 3, 4, 5, 6, 7, 8, 9, 10, 11, 12] (by decide) (by decide) _]
  rw [ownSems0_eq, unscopedSems0_eq]
  unfold closed
  iintro ⟨HS, HB⟩
  isplitl [HB]; · iexact HB
  iexact HS

/-- A cell at zero, its round unopened, becomes an invariant, still with its mark. -/
theorem cell_alloc (g : GSem nD τ sig) :
    iprop(semVal g 0 ∗ roundState ER (ringRd m ρ) g 0 ∗ reached ER g 0)
      ⊢ (|={Set.univ}=> iprop(∃ κ : ℕ, cellInv ER (ringRd m ρ) κ g ∗ reached ER g 0) : sProp 𝕄) := by
  iintro ⟨Hv, Hst, Hr⟩
  imod ((Rounds.body_intro ER (ringRd m ρ) g).trans inv_alloc) $$ [Hv Hst] with ⟨%κ, HI⟩
  · isplitl [Hv]; · iexact Hv
    iexact Hst
  imodintro
  iexists κ
  isplitl [HI]; · iexact HI
  iexact Hr

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k)) ∗ reached ER (kcell (c, k)) 0))
          ∗ atAll (F := F) c ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : Fin 13 => semVal (kcell (c, k)) 0)
        ∗ bigSep Finset.univ fun k : Fin 13 => iprop(roundState ER (ringRd m ρ) (kcell (c, k)) 0 ∗ reached ER (kcell (c, k)) 0))
      ⊢ (|={Set.univ}=> bigSep Finset.univ fun k => iprop(∃ κ : ℕ, cellInv ER (ringRd m ρ) κ (kcell (c, k)) ∗ reached ER (kcell (c, k)) 0) : sProp 𝕄) from by
        rw [← bigSep_sep']
        exact (bigSep_mono fun k _ => cell_alloc m ρ (kcell (c, k))).trans (bigSep_fupd _ _)) $$ [Hv Hst] with Hinv
  · isplitl [Hv] <;> iassumption
  imodintro
  isplitl [Hinv]; · iexact Hinv
  isplitl [Hat]; · iexact Hat
  iexact Htok

/-- Each token goes to the device that pays it. -/
theorem toks_around : (bigSep Finset.univ fun c : Dev nD => (toks c : sProp 𝕄)) ⊢ bigSep Finset.univ fun c : Dev nD => (payToks c : sProp 𝕄) := by
  have up (Φ : Dev nD → sProp 𝕄) : bigSep Finset.univ Φ = bigSep Finset.univ fun c => Φ (nxt c) := bigSep_univ_equiv ring Φ
  have down (Φ : Dev nD → sProp 𝕄) : bigSep Finset.univ Φ = bigSep Finset.univ fun c => Φ (prv c) := bigSep_univ_equiv ring.symm Φ
  unfold toks payToks
  simp only [bigSep_sep']
  rw [down fun c => dutyTok ER (barCell c) 0 false, up fun c => dutyTok ER (barCell c) 0 true,
    up fun c => dutyTok ER (dmaCell c 9) 0 false, down fun c => dutyTok ER (dmaCell c 10) 0 false, up fun c => dutyTok ER (dmaCell c 11) 0 false,
    up fun c => dutyTok ER (dmaCell c 15) 0 false, up fun c => dutyTok ER (dmaCell c 16) 0 false, down fun c => dutyTok ER (dmaCell c 17) 0 false]

theorem deal_all {R : sProp 𝕄} [BI.Persistent R] (Φ : Dev nD → sProp 𝕄) :
    iprop(R ∗ bigSep Finset.univ Φ) ⊢ bigSep Finset.univ fun c => iprop(R ∗ Φ c) := by
  rw [bigSep_sep']
  exact sep_mono_left (BI.bigSep_of_persistent Finset.univ R)

theorem regroup :
    (bigSep Finset.univ fun c : Dev nD => iprop((bigSep Finset.univ fun k => iprop(∃ κ : ℕ, cellInv ER (ringRd m ρ) κ (kcell (c, k)) ∗ reached ER (kcell (c, k)) 0))
          ∗ atAll (F := F) c ∗ toks (F := F) c) : sProp 𝕄)
      ⊢ bigSep Finset.univ (G' m ρ) := by
  rw [bigSep_sep', bigSep_sep',
    ← bigSep_univ_prod (fun p : Dev nD × Fin 13 => iprop(∃ κ : ℕ, cellInv ER (ringRd m ρ) κ (kcell p) ∗ reached ER (kcell p) 0))]
  iintro ⟨HI, Hat, Htok⟩
  ihave HK := (BI.bigSep_exists_pi Finset.univ (fun (p : Dev nD × Fin 13) (κ : ℕ) => (iprop(cellInv ER (ringRd m ρ) κ (kcell p) ∗ reached ER (kcell p) 0) : sProp 𝕄))) $$ HI
  ihave Htok := (toks_around (F := F)) $$ Htok
  iapply (deal_all (R := Recs m ρ) fun c => iprop(atAll (F := F) c ∗ payToks (F := F) c))
  isplitl [HK]; · unfold Recs; iexact HK
  rw [bigSep_sep']
  isplitl [Hat]; · iexact Hat
  iexact Htok

/-- The global step: the semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at launch -/

theorem creds_intro (c : Dev nD) : (Pipeline.launchCred O₀ c : sProp 𝕄) ⊢ creds c := by
  have up (s : SemLoc sig) (n : ℕ) := Pipeline.launchCred_tallyAt (τ := τ) (Val := Elt F) (Name := ℕ) (U := UU) (Lvl := ℕ) s nxt prv nxt_prv prv_nxt () n c
  have down (s : SemLoc sig) (n : ℕ) := Pipeline.launchCred_tallyAt (τ := τ) (Val := Elt F) (Name := ℕ) (U := UU) (Lvl := ℕ) s prv nxt prv_nxt nxt_prv () n c
  rw [show O₀ = fun d => O₇ d + tallyAt (barCell (prv d)) () 1 from rfl, Pipeline.launchCred_add,
    show O₇ = fun d => O₆ d + tallyAt (barCell (nxt d)) () 1 from rfl, Pipeline.launchCred_add,
    show O₆ = fun d => O₅ d + owe (nxt d) 9 from rfl, Pipeline.launchCred_add,
    show O₅ = fun d => O₄ d + owe (prv d) 10 from rfl, Pipeline.launchCred_add,
    show O₄ = fun d => O₃ d + owe (nxt d) 11 from rfl, Pipeline.launchCred_add,
    show O₃ = fun d => O₂ d + owe (nxt d) 15 from rfl, Pipeline.launchCred_add,
    show O₂ = fun d => O₁ d + owe (nxt d) 16 from rfl, Pipeline.launchCred_add,
    show O₁ = fun d => 0 + owe (prv d) 17 from rfl, Pipeline.launchCred_add]
  unfold creds
  iintro ⟨⟨⟨⟨⟨⟨⟨⟨-, C17⟩, C16⟩, C15⟩, C11⟩, C10⟩, C9⟩, CN⟩, CP⟩
  isplitl [CN CP]
  · rw [show (tallyAt (barCell c) () 2 : CellTallies nD τ sig Unit) = tallyAt (barCell c) () 1 + tallyAt (barCell c) () 1 from (tallyAt_add _ _ 1 1).symm]
    iapply (cred_add _ _).2
    isplitl [CN]
    · iapply (up (.reg barS) 1); iexact CN
    · iapply (down (.reg barS) 1); iexact CP
  isplitl [C9]; · iapply (up (.dma 9) N); iexact C9
  isplitl [C10]; · iapply (down (.dma 10) N); iexact C10
  isplitl [C11]; · iapply (up (.dma 11) N); iexact C11
  isplitl [C15]; · iapply (up (.dma 15) N); iexact C15
  isplitl [C16]; · iapply (up (.dma 16) N); iexact C16
  iapply (down (.dma 17) N); iexact C17

/-! ## The conditions of the launch theorem -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch closed
  iintro ⟨Hr, HB, HS⟩
  isplitl [HB]; · iexact HB
  isplitl [HS]; · iexact HS
  iexact Hr

theorem lv_stage (c : Dev nD) : ∀ (w : Fin 6) (s : Fin (cfg0.win w).nbuf), lv ((c : Thread nD τ), .dma ((cfg0.win w).sem s)) () ≤ 0 := by
  intro w; fin_cases w <;> intro s <;> fin_cases s <;> exact le_refl 0

theorem waits (c : Dev nD) : (levAts L lv : sProp 𝕄) ⊢ Pipeline.cellsWaits cfgs (dats m ρ) () 0 c :=
  Pipeline.cellsWaits_intro cfgs (dats m ρ) () 0 c fun w s t =>
    mayWait c _ 0 (lv_stage c w s) (by
      rcases t with ⟨_ | _, ht⟩
      · exact above₀ c
      · exact Above.zero 0)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters, under every weakly fair schedule, the four devices finish with each window's array
    at its final contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array after the run holds what it held. -/
theorem finalA_in (c : Dev nD) (w : Fin cfg0.W) (hw : (cfg0.win w).isOut = false) : finalA m ρ c w = (s₀ m ρ).mem ((cfg0.win w).arr.view.loc (c : Thread nD τ)) :=
  (dats m ρ 0 c).arrAt_in w hw _

end Cert.Ring
-- ==== Proof.Frames.lean ====
/-
The result of each device and the frames of the three programs.
-/
module

public import proofs.«01_k».proof.Defs
public import proofs.«01_k».proof.Proof.Launch
public import proofs.«01_k».proof.Proof.Gen.Kernel
public import proofs.«01_k».proof.Proof.Gen.ReferenceIdeal.Run
public import Idealize.ShloMosaic.Adequacy

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The result array -/

/-- The result array's one block, read back, is what device `c` leaves in its staging buffer. -/
theorem finalA_out (c : Dev nD) : (win0_5.blk (0 : Fin 1)).view.read (Elt F) (finalA m ρ c (5 : Fin 6)) = outAt m ρ c := by
  unfold finalA
  rw [show cfg0.N = ((0 : Fin 1) : Fin cfg0.N).val + 1 from rfl, (dats m ρ 0 c).arrAt_succ (5 : Fin 6) (0 : Fin 1)]
  rw [show (cfg0.win (5 : Fin 6)).flush (0 : Fin 1) = true from by decide, if_pos rfl]
  exact View.read_write_univ _ _

/-! ## The frames -/

/-- What both kernels' frames ask of the final state. -/
theorem args_kept {r : PUnit × MemSt nD τ sig (Elt F)} (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h c (0 : Fin 6)).trans (finalA_in m ρ c 0 rfl), (h c (1 : Fin 6)).trans (finalA_in m ρ c 1 rfl), (h c (2 : Fin 6)).trans (finalA_in m ρ c 2 rfl),
    (h c (3 : Fin 6)).trans (finalA_in m ρ c 3 rfl), (h c (4 : Fin 6)).trans (finalA_in m ρ c 4 rfl)⟩

/-- The run of the four devices with what every frame says of it. -/
theorem run_kept : θ_run defs (onTc (τ := τ) (main (F := F))) (s₀ m ρ) (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨args_kept m ρ h.1, h.2⟩) (run_main m ρ)

theorem frame_ideal : Cert.quiescent_KernelIdeal := fun m ρ _ => run_kept (F := Ideal) m ρ

/-- The two kernels' bodies are the same text. -/
theorem kernel_defs₀ : Cert.Kernel.defs₀ (F := F) = Cert.KernelIdeal.defs₀ (F := F) := by
  unfold Cert.Kernel.defs₀ Cert.KernelIdeal.defs₀
  congr 1
  funext a b
  match a, b with
  | 0, (t, s) => rfl

theorem kernel_defs : Cert.Kernel.defs (F := F) = Cert.KernelIdeal.defs (F := F) :=
  congrArg (Pipeline.defs Cert.KernelIdeal.pcfgs) kernel_defs₀

theorem frame_kernel : Cert.quiescent_Kernel := fun m ρ _ => by
  rw [kernel_defs (F := Bits)]
  exact run_kept (F := Bits) m ρ

theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

end Cert.Ring
-- ==== Proof.Softmax.lean ====
/-
One head's attention at one query and one column, two ways: the exponentials of the scores summed as they are, and the
same taken relative to a running maximum. They agree where the scores are real; the values may be any extended reals.
-/
module

public import Idealize.ShloMosaic.PureOps.Ideal

@[expose] public section

noncomputable section

namespace Cert.Ring

open Idealize.ShloMosaic

/-! ## Sums of extended reals -/

/-- A real factor that is not negative goes into a sum. -/
theorem sum_mul_real {ι : Type} (S : Finset ι) (f : ι → EReal) (a : ℝ) (ha : 0 ≤ a) : (∑ i ∈ S, f i) * (a : EReal) = ∑ i ∈ S, f i * (a : EReal) := by
  classical
  induction S using Finset.induction_on with
  | empty => simp
  | insert i S hi ih =>
    rw [Finset.sum_insert hi, Finset.sum_insert hi, EReal.right_distrib_of_nonneg_of_ne_top (EReal.coe_nonneg.mpr ha) (EReal.coe_ne_top a), ih]

/-- A sum of reals is the sum of them as extended reals. -/
theorem sum_real {ι : Type} (S : Finset ι) (f : ι → ℝ) : (∑ i ∈ S, (f i : EReal)) = ((∑ i ∈ S, f i : ℝ) : EReal) := by
  classical
  induction S using Finset.induction_on with
  | empty => simp
  | insert i S hi ih => rw [Finset.sum_insert hi, Finset.sum_insert hi, ih, EReal.coe_add]

/-- The greatest of finitely many reals is a real. -/
theorem fold_max_real {ι : Type} [Fintype ι] [Nonempty ι] (s : ι → ℝ) : ∃ M : ℝ, Finset.univ.fold max ⊥ (fun i => (s i : EReal)) = (M : EReal) := by
  obtain ⟨i⟩ := ‹Nonempty ι›
  have ht : Finset.univ.fold max ⊥ (fun i => (s i : EReal)) ≠ ⊤ :=
    ((Finset.fold_max_lt (⊤ : EReal)).mpr ⟨bot_lt_top, fun j _ => EReal.coe_lt_top (s j)⟩).ne
  have hb : Finset.univ.fold max ⊥ (fun i => (s i : EReal)) ≠ ⊥ :=
    ((Finset.lt_fold_max (⊥ : EReal)).mpr (.inr ⟨i, Finset.mem_univ i, EReal.bot_lt_coe (s i)⟩)).ne'
  exact ⟨_, (EReal.coe_toReal ht hb).symm⟩

/-! ## The two forms -/

section
variable {ι : Type} [Fintype ι]

/-- The exponentials of the scores over two halves of the keys, and the quotient. -/
def plainHead (s₀ s₁ v₀ v₁ : ι → EReal) : EReal :=
  Ideal.div ((∑ t, Ideal.exp (s₀ t) * v₀ t) + ∑ t, Ideal.exp (s₁ t) * v₁ t) ((∑ t, Ideal.exp (s₀ t)) + ∑ t, Ideal.exp (s₁ t))

/-- The greatest score of the first half, and of both. -/
def top₀ (s₀ : ι → EReal) : EReal := max ⊥ (Finset.univ.fold max ⊥ s₀)
def top₁ (s₀ s₁ : ι → EReal) : EReal := max (top₀ s₀) (Finset.univ.fold max ⊥ s₁)

/-- The same over the running maximum. -/
def runningHead (s₀ s₁ v₀ v₁ : ι → EReal) : EReal :=
  Ideal.div
    ((∑ t, v₀ t * Ideal.exp (s₀ t - top₀ s₀)) * Ideal.exp (top₀ s₀ - top₁ s₀ s₁) + ∑ t, v₁ t * Ideal.exp (s₁ t - top₁ s₀ s₁))
    ((∑ t, Ideal.exp (s₀ t - top₀ s₀)) * Ideal.exp (top₀ s₀ - top₁ s₀ s₁) + ∑ t, Ideal.exp (s₁ t - top₁ s₀ s₁))

/-- A common positive factor of numerator and denominator goes away. -/
theorem div_mul_real (x : EReal) (l a : ℝ) (hl : 0 < l) (ha : 0 < a) : Ideal.div (x * (a : EReal)) ((l : EReal) * (a : EReal)) = Ideal.div x (l : EReal) := by
  have hla : l * a ≠ 0 := (mul_pos hl ha).ne'
  unfold Ideal.div
  rw [← EReal.coe_mul, if_neg (by exact_mod_cast hla), if_neg (by exact_mod_cast hl.ne'), ← EReal.coe_inv, ← EReal.coe_inv, mul_assoc, ← EReal.coe_mul]
  congr 2
  field_simp

/-- Where the scores are real the two forms agree. -/
theorem runningHead_eq [Nonempty ι] (s₀ s₁ v₀ v₁ : ι → EReal) (h₀ : ∀ t, ∃ r : ℝ, s₀ t = r) (h₁ : ∀ t, ∃ r : ℝ, s₁ t = r) :
    runningHead s₀ s₁ v₀ v₁ = plainHead s₀ s₁ v₀ v₁ := by
  choose r₀ e₀ using h₀
  choose r₁ e₁ using h₁
  obtain rfl : s₀ = fun t => (r₀ t : EReal) := funext e₀
  obtain rfl : s₁ = fun t => (r₁ t : EReal) := funext e₁
  obtain ⟨M₀, hM₀⟩ := fold_max_real r₀
  obtain ⟨N, hN⟩ := fold_max_real r₁
  have t₀ : top₀ (fun t => (r₀ t : EReal)) = (M₀ : EReal) := by rw [top₀, hM₀, max_eq_right bot_le]
  obtain ⟨M₁, t₁⟩ : ∃ M₁ : ℝ, top₁ (fun t => (r₀ t : EReal)) (fun t => (r₁ t : EReal)) = (M₁ : EReal) :=
    ⟨max M₀ N, by rw [top₁, t₀, hN]; exact (EReal.coe_strictMono.monotone.map_max).symm⟩
  have p₀ : ∀ t, Ideal.exp ((r₀ t : EReal) - M₀) * Ideal.exp ((M₀ : EReal) - M₁) = Ideal.exp (r₀ t) * (Real.exp (-M₁) : EReal) := fun t => by
    simp only [← EReal.coe_sub, Ideal.exp_coe, ← EReal.coe_mul, ← Real.exp_add]
    congr 2; ring
  have p₁ : ∀ t, Ideal.exp ((r₁ t : EReal) - M₁) = Ideal.exp (r₁ t) * (Real.exp (-M₁) : EReal) := fun t => by
    simp only [← EReal.coe_sub, Ideal.exp_coe, ← EReal.coe_mul, ← Real.exp_add]
    congr 2
  have hE : Ideal.exp ((M₀ : EReal) - M₁) = (Real.exp (M₀ - M₁) : EReal) := by rw [← EReal.coe_sub, Ideal.exp_coe]
  have hpos : (0 : ℝ) ≤ Real.exp (-M₁) := (Real.exp_pos _).le
  unfold runningHead plainHead
  rw [t₀, t₁]
  have num : (∑ t, v₀ t * Ideal.exp ((r₀ t : EReal) - M₀)) * Ideal.exp ((M₀ : EReal) - M₁) + ∑ t, v₁ t * Ideal.exp ((r₁ t : EReal) - M₁)
      = ((∑ t, Ideal.exp (r₀ t) * v₀ t) + ∑ t, Ideal.exp (r₁ t) * v₁ t) * (Real.exp (-M₁) : EReal) := by
    rw [EReal.right_distrib_of_nonneg_of_ne_top (EReal.coe_nonneg.mpr hpos) (EReal.coe_ne_top _), sum_mul_real _ _ _ hpos, sum_mul_real _ _ _ hpos,
      hE, sum_mul_real _ _ _ (Real.exp_pos _).le, ← hE]
    congr 1
    · exact Finset.sum_congr rfl fun t _ => by rw [mul_assoc, p₀, ← mul_assoc, mul_comm (v₀ t)]
    · exact Finset.sum_congr rfl fun t _ => by rw [p₁, ← mul_assoc, mul_comm (v₁ t)]
  have den : (∑ t, Ideal.exp ((r₀ t : EReal) - M₀)) * Ideal.exp ((M₀ : EReal) - M₁) + ∑ t, Ideal.exp ((r₁ t : EReal) - M₁)
      = (((∑ t, Real.exp (r₀ t)) + ∑ t, Real.exp (r₁ t) : ℝ) : EReal) * (Real.exp (-M₁) : EReal) := by
    rw [hE, sum_mul_real _ _ _ (Real.exp_pos _).le, ← hE, EReal.coe_add, EReal.right_distrib_of_nonneg_of_ne_top (EReal.coe_nonneg.mpr hpos) (EReal.coe_ne_top _),
      ← sum_real, ← sum_real, sum_mul_real _ _ _ hpos, sum_mul_real _ _ _ hpos]
    congr 1
    · exact Finset.sum_congr rfl fun t _ => p₀ t
    · exact Finset.sum_congr rfl fun t _ => p₁ t
  have hl : 0 < (∑ t, Real.exp (r₀ t)) + ∑ t, Real.exp (r₁ t) :=
    add_pos (Finset.sum_pos (fun _ _ => Real.exp_pos _) Finset.univ_nonempty) (Finset.sum_pos (fun _ _ => Real.exp_pos _) Finset.univ_nonempty)
  rw [num, den, div_mul_real _ _ _ hl (Real.exp_pos _), EReal.coe_add, ← sum_real, ← sum_real]
  rfl

end

end Cert.Ring

end
-- ==== Proof.Reference.lean ====
/-
The reference's result read at an index: for each query and each column of the heads' outputs, the running form of the
softmax over the two halves of the keys, then the product with the last weights.
-/
module

public import proofs.«01_k».proof.Proof.Softmax
public import proofs.«01_k».proof.Proof.Gen.ReferenceIdeal.Run
public import Idealize.ShloMosaic.Lib.Pointwise

@[expose] public section

set_option maxRecDepth 16384

noncomputable section

namespace Cert.Ring.Ref

open Cert.ReferenceIdeal Cert.ReferenceIdeal.Gen Idealize.ShloMosaic Idealize.ShloMosaic.TcCoe

/-! ## The stages -/

abbrev scaleR : EReal := Ideal.ofBits .f32 0x3DB504F3#32

def heads (x : FVec Ideal S2048x1024 .f32) (w : FVec Ideal S1024x4096 .f32) : FVec Ideal S2048x32x128 .f32 :=
  shapeCast S2048x32x128 (Host.dotGeneral dot_S2048x1024_S1024x4096_S2048x4096_1_0_0_1_n_n none x w) shapeCasts_S2048x4096_S2048x32x128
def lo (k : FVec Ideal S2048x32x128 .f32) : FVec Ideal S1024x32x128 .f32 := extractStridedSlice S1024x32x128 ![0, 0, 0] k slices_S2048x32x128_S1024x32x128_0_0_0
def hi (k : FVec Ideal S2048x32x128 .f32) : FVec Ideal S1024x32x128 .f32 := extractStridedSlice S1024x32x128 ![1024, 0, 0] k slices_S2048x32x128_S1024x32x128_1024_0_0
def score (q : FVec Ideal S2048x32x128 .f32) (k : FVec Ideal S1024x32x128 .f32) : FVec Ideal S32x2048x1024 .f32 :=
  mulf (Host.dotGeneral dot_S2048x32x128_S1024x32x128_S32x2048x1024_2_2_0_0_1_1 none q k)
    (broadcastInDim S32x2048x1024 ![] bcast_S_S32x2048x1024 (constant S_ .f32 0x3DB504F3#32))
def least : FVec Ideal S32x2048x1 .f32 := broadcastInDim S32x2048x1 ![] bcast_S_S32x2048x1 (constant S_ .f32 0xFF800000#32)
def greatest (s : FVec Ideal S32x2048x1024 .f32) : FVec Ideal S32x2048x1 .f32 :=
  broadcastInDim S32x2048x1 ![0, 1] bcast_S32x2048_S32x2048x1_0_1
    (Host.reduce FloatOps.maximumf s (constant S_ .f32 0xFF800000#32) reducesTo_S32x2048x1024_S32x2048_d2 h_S_)
def weight (s : FVec Ideal S32x2048x1024 .f32) (t : FVec Ideal S32x2048x1 .f32) : FVec Ideal S32x2048x1024 .f32 :=
  Host.exp (subf s (broadcastInDim S32x2048x1024 ![0, 1, 2] bcast_S32x2048x1_S32x2048x1024_0_1_2 t))
def decay (s t : FVec Ideal S32x2048x1 .f32) : FVec Ideal S32x2048x1 .f32 := Host.exp (subf s t)
def across (a : FVec Ideal S32x2048x1 .f32) : FVec Ideal S2048x32x128 .f32 :=
  broadcastInDim S2048x32x128 ![0, 1, 2] bcast_S2048x32x1_S2048x32x128_0_1_2 (transpose S2048x32x1 [1, 0, 2] a transposes_S32x2048x1_S2048x32x1_1_0_2)
def total (p : FVec Ideal S32x2048x1024 .f32) : FVec Ideal S32x2048x1 .f32 :=
  broadcastInDim S32x2048x1 ![0, 1] bcast_S32x2048_S32x2048x1_0_1
    (Host.reduceAdd p (constant S_ .f32 0x00000000#32) reducesTo_S32x2048x1024_S32x2048_d2 h_S_)
def mixed (v : FVec Ideal S1024x32x128 .f32) (p : FVec Ideal S32x2048x1024 .f32) : FVec Ideal S2048x32x128 .f32 :=
  transpose S2048x32x128 [2, 0, 1] (Host.dotGeneral dot_S1024x32x128_S32x2048x1024_S32x128x2048_0_2_2_1_1_0 none v p) transposes_S32x128x2048_S2048x32x128_2_0_1

section
variable (q : FVec Ideal S2048x32x128 .f32) (k v : FVec Ideal S2048x32x128 .f32)

def max₀ : FVec Ideal S32x2048x1 .f32 := maximumf least (greatest (score q (lo k)))
def max₁ : FVec Ideal S32x2048x1 .f32 := maximumf (max₀ q k) (greatest (score q (hi k)))
def sum₀ : FVec Ideal S32x2048x1 .f32 :=
  addf (mulf (broadcastInDim S32x2048x1 ![] bcast_S_S32x2048x1 (constant S_ .f32 0x00000000#32)) (decay least (max₀ q k))) (total (weight (score q (lo k)) (max₀ q k)))
def sum₁ : FVec Ideal S32x2048x1 .f32 := addf (mulf (sum₀ q k) (decay (max₀ q k) (max₁ q k))) (total (weight (score q (hi k)) (max₁ q k)))
def out₀ : FVec Ideal S2048x32x128 .f32 :=
  addf (mulf (broadcastInDim S2048x32x128 ![] bcast_S_S2048x32x128 (constant S_ .f32 0x00000000#32)) (across (decay least (max₀ q k))))
    (mixed (lo v) (weight (score q (lo k)) (max₀ q k)))
def out₁ : FVec Ideal S2048x32x128 .f32 := addf (mulf (out₀ q k v) (across (decay (max₀ q k) (max₁ q k)))) (mixed (hi v) (weight (score q (hi k)) (max₁ q k)))
def quot : FVec Ideal S2048x4096 .f32 := shapeCast S2048x4096 (Host.divf (out₁ q k v) (across (sum₁ q k))) shapeCasts_S2048x32x128_S2048x4096
end

def whole (x : FVec Ideal S2048x1024 .f32) (wq : FVec Ideal S1024x4096 .f32) (wo : FVec Ideal S4096x1024 .f32) (wk wv : FVec Ideal S1024x4096 .f32) :
    FVec Ideal S2048x1024 .f32 :=
  Host.dotGeneral dot_S2048x4096_S4096x1024_S2048x1024_1_0_0_1_n_n none (quot (heads x wq) (heads x wk) (heads x wv)) wo

theorem res_eq (m : (ℓ : Loc nD τ sig) → Buf (Elt Ideal) ℓ) (c : Dev nD) :
    Cert.ReferenceIdeal.Value.res_main_v59 m c
      = whole (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := rfl

/-! ## The stages at an index -/

theorem negInf : Ideal.ofBits .f32 0xFF800000#32 = ⊥ := by simp [Ideal.ofBits, Ideal.ieee]
theorem scaleR_real : ∃ r : ℝ, scaleR = (r : EReal) := by
  simp only [scaleR, Ideal.ofBits, Ideal.ieee]
  rw [if_neg (by decide), if_neg (by decide)]
  exact ⟨_, rfl⟩

/-- Row `r` of the product of `x` with column `n` of `w`. -/
def line (x : FVec Ideal S2048x1024 .f32) (w : FVec Ideal S1024x4096 .f32) (r : Fin 2048) (n : Fin 4096) : EReal :=
  ∑ k : Fin 1024, x (ix2 r k) * w (ix2 k n)

theorem heads_apply (x : FVec Ideal S2048x1024 .f32) (w : FVec Ideal S1024x4096 .f32) (r : Fin 2048) (g : Fin 32) (d : Fin 128) :
    heads x w (ix3 r g d) = line x w r ⟨g.val * 128 + d.val, by omega⟩ := by
  pointwise [heads, line]

theorem lo_apply (k : FVec Ideal S2048x32x128 .f32) (t : Fin 1024) (g : Fin 32) (d : Fin 128) : lo k (ix3 t g d) = k (ix3 ⟨t.val, by omega⟩ g d) := by
  pointwise [lo]
theorem hi_apply (k : FVec Ideal S2048x32x128 .f32) (t : Fin 1024) (g : Fin 32) (d : Fin 128) : hi k (ix3 t g d) = k (ix3 ⟨1024 + t.val, by omega⟩ g d) := by
  pointwise [hi]
theorem score_apply (q : FVec Ideal S2048x32x128 .f32) (k : FVec Ideal S1024x32x128 .f32) (g : Fin 32) (r : Fin 2048) (t : Fin 1024) :
    score q k (ix3 g r t) = (∑ d : Fin 128, q (ix3 r g d) * k (ix3 t g d)) * scaleR := by
  pointwise [score]
theorem least_apply (g : Fin 32) (r : Fin 2048) (z : Fin 1) : least (ix3 g r z) = ⊥ := by
  pointwise [least]
  exact negInf
theorem greatest_apply (s : FVec Ideal S32x2048x1024 .f32) (g : Fin 32) (r : Fin 2048) (z : Fin 1) :
    greatest s (ix3 g r z) = Finset.univ.fold max ⊥ fun t : Fin 1024 => s (ix3 g r t) := by
  pointwise [greatest]
  rw [negInf]
theorem weight_apply (s : FVec Ideal S32x2048x1024 .f32) (a : FVec Ideal S32x2048x1 .f32) (g : Fin 32) (r : Fin 2048) (t : Fin 1024) :
    weight s a (ix3 g r t) = Ideal.exp (s (ix3 g r t) - a (ix3 g r 0)) := by
  pointwise [weight]
theorem decay_apply (a b : FVec Ideal S32x2048x1 .f32) (g : Fin 32) (r : Fin 2048) (z : Fin 1) :
    decay a b (ix3 g r z) = Ideal.exp (a (ix3 g r z) - b (ix3 g r z)) := by
  pointwise [decay]
theorem across_apply (a : FVec Ideal S32x2048x1 .f32) (r : Fin 2048) (g : Fin 32) (d : Fin 128) : across a (ix3 r g d) = a (ix3 g r 0) := by
  pointwise [across]
theorem total_apply (p : FVec Ideal S32x2048x1024 .f32) (g : Fin 32) (r : Fin 2048) (z : Fin 1) :
    total p (ix3 g r z) = ∑ t : Fin 1024, p (ix3 g r t) := by
  pointwise [total]
theorem mixed_apply (v : FVec Ideal S1024x32x128 .f32) (p : FVec Ideal S32x2048x1024 .f32) (r : Fin 2048) (g : Fin 32) (d : Fin 128) :
    mixed v p (ix3 r g d) = ∑ t : Fin 1024, v (ix3 t g d) * p (ix3 g r t) := by
  pointwise [mixed]

/-! ## The heads and the result -/

/-- The two halves of the keys. -/
def loKey (t : Fin 1024) : Fin 2048 := ⟨t.val, by omega⟩
def hiKey (t : Fin 1024) : Fin 2048 := ⟨1024 + t.val, by omega⟩
/-- Column `d` of head `g`. -/
def headCol (g : Fin 32) (d : Fin 128) : Fin 4096 := ⟨g.val * 128 + d.val, by omega⟩

/-- The score of query row `r` against key row `t` in head `g`, from the rows of queries and keys. -/
def scoreAt (Q K : Fin 2048 → Fin 4096 → EReal) (r : Fin 2048) (g : Fin 32) (t : Fin 2048) : EReal :=
  (∑ d : Fin 128, Q r (headCol g d) * K t (headCol g d)) * scaleR

section
variable (x : FVec Ideal S2048x1024 .f32) (wq wk wv : FVec Ideal S1024x4096 .f32)

theorem scoreLo_apply (g : Fin 32) (r : Fin 2048) (t : Fin 1024) :
    score (heads x wq) (lo (heads x wk)) (ix3 g r t) = scoreAt (line x wq) (line x wk) r g (loKey t) := by
  rw [score_apply]; simp only [lo_apply, heads_apply]; rfl
theorem scoreHi_apply (g : Fin 32) (r : Fin 2048) (t : Fin 1024) :
    score (heads x wq) (hi (heads x wk)) (ix3 g r t) = scoreAt (line x wq) (line x wk) r g (hiKey t) := by
  rw [score_apply]; simp only [hi_apply, heads_apply]; rfl

theorem maxAt {s : Shape} (a b : FVec Ideal s .f32) (i : s.Idx) : maximumf a b i = max (a i : EReal) (b i) := rfl
theorem foldStep {s : Shape} (a b e : FVec Ideal s .f32) (i : s.Idx) : addf (mulf a b) e i = (a i : EReal) * b i + e i := rfl

theorem max₀_apply (g : Fin 32) (r : Fin 2048) (z : Fin 1) :
    max₀ (heads x wq) (heads x wk) (ix3 g r z) = top₀ fun t => scoreAt (line x wq) (line x wk) r g (loKey t) := by
  unfold max₀ top₀
  rw [maxAt, least_apply, greatest_apply]; simp only [scoreLo_apply]
theorem max₁_apply (g : Fin 32) (r : Fin 2048) (z : Fin 1) :
    max₁ (heads x wq) (heads x wk) (ix3 g r z)
      = top₁ (fun t => scoreAt (line x wq) (line x wk) r g (loKey t)) fun t => scoreAt (line x wq) (line x wk) r g (hiKey t) := by
  unfold max₁ top₁
  rw [maxAt, max₀_apply, greatest_apply]; simp only [scoreHi_apply]

theorem zeroCol (i : S32x2048x1.Idx) : (broadcastInDim S32x2048x1 ![] bcast_S_S32x2048x1 (constant (F := Ideal) S_ .f32 0x00000000#32)) i = (0 : EReal) := by
  pointwise
theorem zeroAll (i : S2048x32x128.Idx) : (broadcastInDim S2048x32x128 ![] bcast_S_S2048x32x128 (constant (F := Ideal) S_ .f32 0x00000000#32)) i = (0 : EReal) := by
  pointwise

/-- What the reference divides, at a query row and a column of a head. -/
theorem quot_apply (r : Fin 2048) (n : Fin 4096) :
    quot (heads x wq) (heads x wk) (heads x wv) (ix2 r n)
      = runningHead (fun t => scoreAt (line x wq) (line x wk) r ⟨n.val / 128, by omega⟩ (loKey t))
          (fun t => scoreAt (line x wq) (line x wk) r ⟨n.val / 128, by omega⟩ (hiKey t))
          (fun t => line x wv (loKey t) n) (fun t => line x wv (hiKey t) n) := by
  have hq : quot (heads x wq) (heads x wk) (heads x wv) (ix2 r n)
      = Ideal.div (out₁ (heads x wq) (heads x wk) (heads x wv) (ix3 r ⟨n.val / 128, by omega⟩ ⟨n.val % 128, by omega⟩))
          (across (sum₁ (heads x wq) (heads x wk)) (ix3 r ⟨n.val / 128, by omega⟩ ⟨n.val % 128, by omega⟩)) := by
    pointwise [quot]
  obtain ⟨g, hg⟩ : ∃ g : Fin 32, g = ⟨n.val / 128, by omega⟩ := ⟨_, rfl⟩
  obtain ⟨d, hd⟩ : ∃ d : Fin 128, d = ⟨n.val % 128, by omega⟩ := ⟨_, rfl⟩
  have hn : headCol g d = n := by rw [hg, hd]; exact Fin.ext (Nat.div_add_mod' n.val 128)
  rw [← hg, ← hd] at hq
  rw [← hg]
  have hv₀ : ∀ t : Fin 1024, heads x wv (ix3 ⟨t.val, by omega⟩ g d) = line x wv (loKey t) n := fun t => by rw [heads_apply, ← hn]; rfl
  have hv₁ : ∀ t : Fin 1024, heads x wv (ix3 ⟨1024 + t.val, by omega⟩ g d) = line x wv (hiKey t) n := fun t => by rw [heads_apply, ← hn]; rfl
  have ho : out₁ (heads x wq) (heads x wk) (heads x wv) (ix3 r g d)
      = (∑ t, line x wv (loKey t) n * Ideal.exp (scoreAt (line x wq) (line x wk) r g (loKey t) - top₀ fun t => scoreAt (line x wq) (line x wk) r g (loKey t)))
            * Ideal.exp ((top₀ fun t => scoreAt (line x wq) (line x wk) r g (loKey t))
                - top₁ (fun t => scoreAt (line x wq) (line x wk) r g (loKey t)) fun t => scoreAt (line x wq) (line x wk) r g (hiKey t))
          + ∑ t, line x wv (hiKey t) n * Ideal.exp (scoreAt (line x wq) (line x wk) r g (hiKey t)
              - top₁ (fun t => scoreAt (line x wq) (line x wk) r g (loKey t)) fun t => scoreAt (line x wq) (line x wk) r g (hiKey t)) := by
    unfold out₁ out₀
    rw [foldStep, foldStep, zeroAll, zero_mul, zero_add, across_apply, decay_apply, max₀_apply, max₁_apply, mixed_apply, mixed_apply]
    simp only [weight_apply, scoreLo_apply, scoreHi_apply, max₀_apply, max₁_apply, lo_apply, hi_apply, hv₀, hv₁]
  have hs : across (sum₁ (heads x wq) (heads x wk)) (ix3 r g d)
      = (∑ t, Ideal.exp (scoreAt (line x wq) (line x wk) r g (loKey t) - top₀ fun t => scoreAt (line x wq) (line x wk) r g (loKey t)))
            * Ideal.exp ((top₀ fun t => scoreAt (line x wq) (line x wk) r g (loKey t))
                - top₁ (fun t => scoreAt (line x wq) (line x wk) r g (loKey t)) fun t => scoreAt (line x wq) (line x wk) r g (hiKey t))
          + ∑ t, Ideal.exp (scoreAt (line x wq) (line x wk) r g (hiKey t)
              - top₁ (fun t => scoreAt (line x wq) (line x wk) r g (loKey t)) fun t => scoreAt (line x wq) (line x wk) r g (hiKey t)) := by
    rw [across_apply]
    unfold sum₁ sum₀
    rw [foldStep, foldStep, zeroCol, zero_mul, zero_add, decay_apply, max₀_apply, max₁_apply, total_apply, total_apply]
    simp only [weight_apply, scoreLo_apply, scoreHi_apply, max₀_apply, max₁_apply]
  rw [hq, ho, hs, runningHead]

theorem whole_apply (wo : FVec Ideal S4096x1024 .f32) (r : Fin 2048) (n : Fin 1024) :
    whole x wq wo wk wv (ix2 r n) = ∑ k : Fin 4096, quot (heads x wq) (heads x wk) (heads x wv) (ix2 r k) * wo (ix2 k n) := by
  pointwise [whole]
end

end Cert.Ring.Ref

end
-- ==== Proof.Values.lean ====
/-
The kernel's result on device `c` read at an index, over extended reals: each head's quotient of sums of exponentials,
and the four devices' products of their heads with their rows of the last weights.
-/
module

public import proofs.«01_k».proof.Proof.Common
public import proofs.«01_k».proof.Proof.Reference
public import Idealize.ShloMosaic.Lib.ValueLayout

@[expose] public section

set_option maxRecDepth 16384

noncomputable section

namespace Cert.Ring

open Cert.KernelIdeal Cert.KernelIdeal.Gen Idealize.ShloMosaic Idealize.ShloMosaic.TcCoe

/-! ## The steps at an index -/

theorem narrow1 (x : FVec Ideal S512x1024 .f32) (r : Fin 512) (k : Fin 1024) : (k0_pay1 (F := Ideal) x (ix2 r k) : EReal) = x (ix2 r k) := by pointwise [k0_pay1]
theorem narrow2 (w : FVec Ideal S1024x1024 .f32) (r : Fin 1024) (k : Fin 1024) : (k0_pay2 (F := Ideal) w (ix2 r k) : EReal) = w (ix2 r k) := by pointwise [k0_pay2]
theorem narrow3 (w : FVec Ideal S1024x1024 .f32) (r : Fin 1024) (k : Fin 1024) : (k0_pay3 (F := Ideal) w (ix2 r k) : EReal) = w (ix2 r k) := by pointwise [k0_pay3]
theorem narrow4 (w : FVec Ideal S1024x1024 .f32) (r : Fin 1024) (k : Fin 1024) : (k0_pay4 (F := Ideal) w (ix2 r k) : EReal) = w (ix2 r k) := by pointwise [k0_pay4]
theorem narrow18 (w : FVec Ideal S1024x1024 .f32) (r : Fin 1024) (k : Fin 1024) : (k0_pay18 (F := Ideal) w (ix2 r k) : EReal) = w (ix2 r k) := by pointwise [k0_pay18]

theorem proj_apply (w : FVec Ideal S1024x1024 .bf16) (x : Chunk Ideal) (r : Fin 512) (n : Fin 1024) :
    proj w x (ix2 r n) = ∑ k : Fin 1024, x (ix2 r k) * w (ix2 k n) := by pointwise [proj, k0_pay5]

theorem expLo_apply (q : Vec Ideal S512x128 .bf16) (k : Vec Ideal S1024x128 .bf16) (r : Fin 512) (t : Fin 1024) :
    k0_pay19 q k (ix2 r t) = Ideal.exp ((∑ e : Fin 128, q (ix2 r e) * k (ix2 t e)) * Ref.scaleR) := by pointwise [k0_pay19]
theorem expHi_apply (q : Vec Ideal S512x128 .bf16) (k : Vec Ideal S1024x128 .bf16) (r : Fin 512) (t : Fin 1024) :
    k0_pay22 q k (ix2 r t) = Ideal.exp ((∑ e : Fin 128, q (ix2 r e) * k (ix2 t e)) * Ref.scaleR) := by pointwise [k0_pay22]

theorem headOf_apply (q : Vec Ideal S512x128 .bf16) (k₀ v₀ k₁ v₁ : Vec Ideal S1024x128 .bf16) (r : Fin 512) (d : Fin 128) :
    headOf q k₀ v₀ k₁ v₁ (ix2 r d)
      = plainHead (fun t : Fin 1024 => (∑ e : Fin 128, q (ix2 r e) * k₀ (ix2 t e)) * Ref.scaleR)
          (fun t => (∑ e : Fin 128, q (ix2 r e) * k₁ (ix2 t e)) * Ref.scaleR) (fun t => v₀ (ix2 t d)) (fun t => v₁ (ix2 t d)) := by
  unfold plainHead headOf
  simp only [← expLo_apply q k₀ r, ← expHi_apply q k₁ r]
  pointwise [k0_pay23, k0_pay20, k0_pay21]

theorem last_apply (w : FVec Ideal S1024x1024 .bf16) (a : Chunk Ideal) (r : Fin 512) (n : Fin 1024) :
    k0_pay115 w a (ix2 r n) = ∑ k : Fin 1024, a (ix2 r k) * w (ix2 k n) := by pointwise [k0_pay115]
theorem last144_apply (w : FVec Ideal S1024x1024 .bf16) (a : Chunk Ideal) (r : Fin 512) (n : Fin 1024) :
    k0_pay144 w a (ix2 r n) = ∑ k : Fin 1024, a (ix2 r k) * w (ix2 k n) := by pointwise [k0_pay144]
theorem unsq_apply (p : Chunk Ideal) (r : Fin 512) (n : Fin 1024) : unsq p (ix3 0 r n) = p (ix2 r n) := by
  unfold unsq
  rw [show ix3 0 r n = Shape.reshapeEquiv squeezes_S1x512x1024_S512x1024.numel_eq (ix2 r n) from (ValueIdx.reshapeEquiv_ix2_1ab _ r n).symm,
    Equiv.symm_apply_apply]
theorem added_apply (w : FVec Ideal S1024x1024 .bf16) (a p : Chunk Ideal) (r : Fin 512) (n : Fin 1024) :
    k0_pay84 w a (unsq p) (ix2 r n) = p (ix2 r n) + ∑ k : Fin 1024, a (ix2 r k) * w (ix2 k n) := by
  pointwise [k0_pay84]
  rw [unsq_apply]
theorem both_apply (y : FVec Ideal S512x1024 .f32) (p p' : Chunk Ideal) (r : Fin 512) (n : Fin 1024) :
    k0_pay145 y (unsq p) (unsq p') (ix2 r n) = y (ix2 r n) + p (ix2 r n) + p' (ix2 r n) := by
  pointwise [k0_pay145]
  rw [unsq_apply, unsq_apply]

/-! ## Where the rectangles lie -/

set_option backward.proofsInPublic true in
/-- Row `r` of chunk `j`, and column `n` of device `c`'s block of the weights, in the whole arrays. -/
def rowIn (j : Dev nD) (r : Fin 512) : Fin 2048 := ⟨j.val * 512 + r.val, by have : j.val < 4 := j.isLt; omega⟩
set_option backward.proofsInPublic true in
def colIn (c : Dev nD) (n : Fin 1024) : Fin 4096 := ⟨c.val * 1024 + n.val, by have : c.val < 4 := c.isLt; omega⟩
set_option backward.proofsInPublic true in
/-- Column `d` of head `h` of a device's block. -/
def laneOf (h : Fin 8) (d : Fin 128) : Fin 1024 := ⟨128 * h.val + d.val, by omega⟩

theorem emb_rowsHead (j : Dev nD) (h : Fin 8) (r : Fin 512) (e : Fin 128) : (rowsHead j h).emb (ix2 r e) = ix2 (rowIn j r) (laneOf h e) := by
  funext a; apply Fin.ext; rw [Rect.emb_apply]
  match a with
  | ⟨0, _⟩ => show 512 * j.val + 1 * r.val = j.val * 512 + r.val; omega
  | ⟨1, _⟩ => show 128 * h.val + 1 * e.val = 128 * h.val + e.val; omega
theorem emb_colsLo (h : Fin 8) (t : Fin 1024) (e : Fin 128) : (colsLo h).emb (ix2 t e) = ix2 (Ref.loKey t) (laneOf h e) := by
  funext a; apply Fin.ext; rw [Rect.emb_apply]
  match a with
  | ⟨0, _⟩ => show 0 + 1 * t.val = t.val; omega
  | ⟨1, _⟩ => show 128 * h.val + 1 * e.val = 128 * h.val + e.val; omega
theorem emb_colsHi (h : Fin 8) (t : Fin 1024) (e : Fin 128) : (colsHi h).emb (ix2 t e) = ix2 (Ref.hiKey t) (laneOf h e) := by
  funext a; apply Fin.ext; rw [Rect.emb_apply]
  match a with
  | ⟨0, _⟩ => show 1024 + 1 * t.val = 1024 + t.val; omega
  | ⟨1, _⟩ => show 128 * h.val + 1 * e.val = 128 * h.val + e.val; omega

theorem stack_apply (X : Dev nD → Chunk Ideal) (r : Fin 2048) (n : Fin 1024) : stack X (ix2 r n) = X (chunkOf r) (ix2 (rowOf r) n) := by
  unfold stack
  congr 1
  funext a
  match a with
  | ⟨0, _⟩ => rfl
  | ⟨1, _⟩ => rfl
theorem beside_apply (X : Fin 8 → FVec Ideal S512x128 .bf16) (r : Fin 512) (n : Fin 1024) :
    beside X (ix2 r n) = X (headNo n) (ix2 r (colOf n)) := by
  unfold beside
  congr 1
  funext a
  match a with
  | ⟨0, _⟩ => rfl
  | ⟨1, _⟩ => rfl

theorem rowIn_parts (r : Fin 2048) : rowIn (chunkOf r) (rowOf r) = r := Fin.ext (by show r.val / 512 * 512 + r.val % 512 = r.val; omega)
theorem laneOf_parts (n : Fin 1024) : laneOf (headNo n) (colOf n) = n := Fin.ext (by show 128 * (n.val / 128) + n.val % 128 = n.val; omega)

/-- The head column `n` of device `c`'s block lies in, among all heads. -/
theorem colIn_laneOf (c : Dev nD) (n : Fin 1024) (e : Fin 128) :
    colIn c (laneOf (headNo n) e) = Ref.headCol ⟨(colIn c n).val / 128, by omega⟩ e :=
  Fin.ext (by
    show c.val * 1024 + (128 * (n.val / 128) + e.val) = (c.val * 1024 + n.val) / 128 * 128 + e.val
    omega)

/-! ## Sums over the devices -/

/-- A sum over all columns is the sum over the devices of the sums over their blocks. -/
theorem sum_blocks (f : Fin 4096 → EReal) : ∑ k, f k = ∑ d : Dev nD, ∑ k : Fin 1024, f (colIn d k) := by
  rw [← Fintype.sum_prod_type' fun (d : Dev nD) (k : Fin 1024) => f (colIn d k)]
  refine (Fintype.sum_equiv (finProdFinEquiv (m := 4) (n := 1024)) _ _ fun p => ?_).symm
  congr 1
  exact Fin.ext (by show p.1.val * 1024 + p.2.val = p.2.val + 1024 * p.1.val; omega)

/-- A sum over the devices in the order in which device `c` adds. -/
theorem sum_ring (g : Dev nD → EReal) (c : Dev nD) : g c + (g (opp c) + g (prv c)) + g (nxt c) = ∑ d, g d := by
  rw [show ∑ d : Dev nD, g d = g 0 + g 1 + g 2 + g 3 from Fin.sum_univ_four g]
  obtain ⟨h₀, h₁, h₂, h₃⟩ | ⟨h₀, h₁, h₂, h₃⟩ | ⟨h₀, h₁, h₂, h₃⟩ | ⟨h₀, h₁, h₂, h₃⟩ := (by decide :
      ∀ c : Dev nD, (c = 0 ∧ opp c = 2 ∧ prv c = 3 ∧ nxt c = 1) ∨ (c = 1 ∧ opp c = 3 ∧ prv c = 0 ∧ nxt c = 2)
        ∨ (c = 2 ∧ opp c = 0 ∧ prv c = 1 ∧ nxt c = 3) ∨ (c = 3 ∧ opp c = 1 ∧ prv c = 2 ∧ nxt c = 0)) c <;>
    rw [h₁, h₂, h₃, h₀] <;> ac_rfl

/-! ## The kernel's stages from the whole arrays -/

section
variable (m : (ℓ : Loc nD τ sig) → Buf (Elt Ideal) ℓ) (ρ : Dev nD → PrngReg)
variable (A0 : FVec Ideal S2048x1024 .f32) (A1 A3 A4 : FVec Ideal ⟨2, ![1024, 4096]⟩ .f32) (A2 : FVec Ideal ⟨2, ![4096, 1024]⟩ .f32)

/-- Each device's arguments are its blocks of the whole arrays. -/
structure Blocks : Prop where
  x : ∀ c r k, xin m ρ c (ix2 r k) = A0 (ix2 (rowIn c r) k)
  wq : ∀ c k n, wqIn m ρ c (ix2 k n) = A1 (ix2 k (colIn c n))
  wo : ∀ c k n, woIn m ρ c (ix2 k n) = A2 (ix2 (colIn c k) n)
  wk : ∀ c k n, wkIn m ρ c (ix2 k n) = A3 (ix2 k (colIn c n))
  wv : ∀ c k n, wvIn m ρ c (ix2 k n) = A4 (ix2 k (colIn c n))

variable {m ρ A0 A1 A3 A4 A2} (h : Blocks m ρ A0 A1 A3 A4 A2)
include h

theorem rows_apply (w : Dev nD → FVec Ideal S1024x1024 .bf16) (A : FVec Ideal ⟨2, ![1024, 4096]⟩ .f32) (c : Dev nD)
    (hw : ∀ k n, (w c (ix2 k n) : EReal) = A (ix2 k (colIn c n))) (r : Fin 2048) (n : Fin 1024) :
    (stack (fun j => proj (w c) (xch m ρ j)) (ix2 r n) : EReal) = Ref.line A0 A r (colIn c n) := by
  rw [stack_apply, proj_apply]
  unfold Ref.line
  refine Finset.sum_congr rfl fun k _ => ?_
  rw [hw, show (xch m ρ (chunkOf r) (ix2 (rowOf r) k) : EReal) = _ from narrow1 _ _ _, h.x, rowIn_parts]

theorem qRows_apply (c : Dev nD) (r : Fin 2048) (n : Fin 1024) : (qRows m ρ c (ix2 r n) : EReal) = Ref.line A0 A1 r (colIn c n) :=
  rows_apply h (wq m ρ) A1 c (fun k n => (narrow2 _ k n).trans (h.wq c k n)) r n
theorem kRows_apply (c : Dev nD) (r : Fin 2048) (n : Fin 1024) : (kRows m ρ c (ix2 r n) : EReal) = Ref.line A0 A3 r (colIn c n) :=
  rows_apply h (wk m ρ) A3 c (fun k n => (narrow3 _ k n).trans (h.wk c k n)) r n
theorem vRows_apply (c : Dev nD) (r : Fin 2048) (n : Fin 1024) : (vRows m ρ c (ix2 r n) : EReal) = Ref.line A0 A4 r (colIn c n) :=
  rows_apply h (wv m ρ) A4 c (fun k n => (narrow4 _ k n).trans (h.wv c k n)) r n

/-- Device `c`'s heads for chunk `j` are quotients of sums of exponentials of the whole arrays' scores. -/
theorem attn_apply (c j : Dev nD) (r : Fin 512) (n : Fin 1024) :
    (attn m ρ c j (ix2 r n) : EReal)
      = plainHead (fun t => Ref.scoreAt (Ref.line A0 A1) (Ref.line A0 A3) (rowIn j r) ⟨(colIn c n).val / 128, by omega⟩ (Ref.loKey t))
          (fun t => Ref.scoreAt (Ref.line A0 A1) (Ref.line A0 A3) (rowIn j r) ⟨(colIn c n).val / 128, by omega⟩ (Ref.hiKey t))
          (fun t => Ref.line A0 A4 (Ref.loKey t) (colIn c n)) (fun t => Ref.line A0 A4 (Ref.hiKey t) (colIn c n)) := by
  unfold attn
  rw [beside_apply]
  unfold headAt
  rw [headOf_apply]
  simp only [emb_rowsHead, emb_colsLo, emb_colsHi, laneOf_parts, vRows_apply h]
  unfold Ref.scoreAt
  simp only [qRows_apply h, kRows_apply h, colIn_laneOf]

theorem last_term (d : Dev nD) (X : Chunk Ideal) (r : Fin 512) (n : Fin 1024) :
    (∑ k : Fin 1024, (X (ix2 r k) : EReal) * wo m ρ d (ix2 k n)) = ∑ k : Fin 1024, (X (ix2 r k) : EReal) * A2 (ix2 (colIn d k) n) :=
  Finset.sum_congr rfl fun k _ => by rw [show (wo m ρ d (ix2 k n) : EReal) = _ from (narrow18 _ k n).trans (h.wo d k n)]

/-- The kernel's result on device `c` is the sum over the devices of their heads times their rows of the last weights. -/
theorem outAt_apply (c : Dev nD) (r : Fin 512) (n : Fin 1024) :
    (outAt m ρ c (ix2 r n) : EReal)
      = ∑ d : Dev nD, ∑ k : Fin 1024, (attn m ρ d c (ix2 r k) : EReal) * A2 (ix2 (colIn d k) n) := by
  unfold outAt
  rw [both_apply, last144_apply]
  unfold part1 part2
  rw [added_apply]
  unfold part0
  rw [last_apply, last_apply, nxt_prv, prv_nxt, prv_prv, opp_opp]
  rw [last_term h c, last_term h (opp c), last_term h (prv c), last_term h (nxt c)]
  exact sum_ring (fun d => ∑ k : Fin 1024, (attn m ρ d c (ix2 r k) : EReal) * A2 (ix2 (colIn d k) n)) c

omit h in
theorem products_real {ι : Type} [Fintype ι] {a b : ι → EReal} (ha : ∀ i, ∃ y : ℝ, a i = y) (hb : ∀ i, ∃ y : ℝ, b i = y) :
    ∃ y : ℝ, ∑ i, a i * b i = y := by
  choose u hu using ha
  choose w hw using hb
  exact ⟨∑ i, u i * w i, by simp only [hu, hw, ← EReal.coe_mul]; exact sum_real _ _⟩

omit h in
/-- The whole arrays' queries and keys, where their entries are numbers, give scores that are numbers. -/
theorem line_real (A : FVec Ideal ⟨2, ![1024, 4096]⟩ .f32) (hx : ∀ r k, ∃ y : ℝ, A0 (ix2 r k) = y) (hA : ∀ k n, ∃ y : ℝ, A (ix2 k n) = y)
    (r : Fin 2048) (n : Fin 4096) : ∃ y : ℝ, Ref.line A0 A r n = y :=
  products_real (fun k => hx r k) (fun k => hA k n)

omit h in
theorem score_real {Q K : Fin 2048 → Fin 4096 → EReal} (hQ : ∀ r n, ∃ y : ℝ, Q r n = y) (hK : ∀ r n, ∃ y : ℝ, K r n = y)
    (r : Fin 2048) (g : Fin 32) (t : Fin 2048) : ∃ y : ℝ, Ref.scoreAt Q K r g t = y := by
  obtain ⟨a, ha⟩ := products_real (fun d : Fin 128 => hQ r (Ref.headCol g d)) (fun d => hK t (Ref.headCol g d))
  obtain ⟨b, hb⟩ := Ref.scaleR_real
  exact ⟨a * b, by unfold Ref.scoreAt; rw [ha, hb, EReal.coe_mul]⟩

/-- Device `c`'s result is its rows of the reference's result. -/
theorem outAt_eq (hx : ∀ r k, ∃ y : ℝ, A0 (ix2 r k) = y) (hq : ∀ k n, ∃ y : ℝ, A1 (ix2 k n) = y) (hk : ∀ k n, ∃ y : ℝ, A3 (ix2 k n) = y)
    (c : Dev nD) (r : Fin 512) (n : Fin 1024) :
    (outAt m ρ c (ix2 r n) : EReal) = Ref.whole A0 A1 A2 A3 A4 (ix2 (rowIn c r) n) := by
  rw [outAt_apply h, Ref.whole_apply, sum_blocks]
  refine Finset.sum_congr rfl fun d _ => Finset.sum_congr rfl fun k _ => ?_
  rw [attn_apply h, Ref.quot_apply, runningHead_eq]
  · exact fun t => score_real (line_real A1 hx hq) (line_real A3 hx hk) _ _ _
  · exact fun t => score_real (line_real A1 hx hq) (line_real A3 hx hk) _ _ _
end

end Cert.Ring

end
-- ==== Proof.Finite.lean ====
/-
What the precondition says: the rows and the weights of queries and keys have numbers for entries.
-/
module

public import proofs.«01_k».proof.Defs
public import Idealize.ShloMosaic.Lib.Pointwise
public import Idealize.ShloMosaic.Lib.ReduceAll

@[expose] public section

set_option maxRecDepth 16384

noncomputable section

namespace Cert.Ring

open Idealize.ShloMosaic

theorem finite_facts_kernel : Cert.Pre_finite_KernelIdeal.Facts := ⟨by decide, by decide, by decide, by decide, by decide⟩
theorem finite_facts_reference : Cert.Pre_finite_ReferenceIdeal.Facts := ⟨by decide, by decide, by decide, by decide, by decide⟩

theorem posInf : Ideal.ofBits .f32 0x7F800000#32 = ⊤ := by simp [Ideal.ofBits, Ideal.ieee]

/-- An entry whose absolute value is below infinity is a number. -/
theorem real_of_abs_lt {x : EReal} (h : max x (-x) < ⊤) : ∃ y : ℝ, x = y := by
  induction x using EReal.rec with
  | bot => simp at h
  | coe y => exact ⟨y, rfl⟩
  | top => simp at h

theorem one_of_true {p : Prop} [Decidable p] (h : BitVec.ofBool (decide p) = 1#1) : p := by
  by_contra hp
  rw [decide_eq_false hp] at h
  exact absurd h (by decide)

theorem entry_real {s : Shape} (hb : Cert.Pre_finite_KernelIdeal.S_.BroadcastsInDim s (![] : Fin 0 → Fin s.rank)) (a : FVec Ideal s .f32)
    (i : s.Idx) (h : cmpf .olt (Host.absf a) (broadcastInDim s ![] hb (constant Cert.Pre_finite_KernelIdeal.S_ .f32 0x7F800000#32)) i = 1#1) :
    ∃ y : ℝ, (a i : EReal) = y := by
  apply real_of_abs_lt
  pointwise at h
  rw [posInf] at h
  exact one_of_true h

instance : Subsingleton Cert.Pre_finite_KernelIdeal.S_.Idx := ⟨fun _ _ => funext fun a => a.elim0⟩

/-- Each of the three arrays has numbers for entries where the precondition holds. -/
theorem finite_entries (a₀ : FVec Ideal Cert.Pre_finite_KernelIdeal.S512x1024 .f32) (a₁ a₂ a₃ a₄ : FVec Ideal Cert.Pre_finite_KernelIdeal.S1024x1024 .f32)
    (h : @Cert.Pre_finite_KernelIdeal.fn finite_facts_kernel Ideal _ a₀ a₁ a₂ a₃ a₄ = fun _ => 1#1) :
    (∀ i, ∃ y : ℝ, (a₀ i : EReal) = y) ∧ (∀ i, ∃ y : ℝ, (a₁ i : EReal) = y) ∧ ∀ i, ∃ y : ℝ, (a₃ i : EReal) = y := by
  have e := congrFun h (fun a => a.elim0)
  unfold Cert.Pre_finite_KernelIdeal.fn at e
  obtain ⟨e₀₁, e₃⟩ := IntOp.andi_eq_one.1 e
  obtain ⟨e₀, e₁⟩ := IntOp.andi_eq_one.1 e₀₁
  exact ⟨fun i => entry_real _ a₀ i (Host.reduce_andi_all _ _ _ _ _ e₀ i), fun i => entry_real _ a₁ i (Host.reduce_andi_all _ _ _ _ _ e₁ i),
    fun i => entry_real _ a₃ i (Host.reduce_andi_all _ _ _ _ _ e₃ i)⟩

end Cert.Ring

end
-- ==== Proof.Value.lean ====
/-
The value of the kernel: each device's result is its block of the reference's.
-/
module

public import proofs.«01_k».proof.Proof.Frames
public import proofs.«01_k».proof.Proof.Values
public import proofs.«01_k».proof.Proof.Finite
public import Idealize.ShloMosaic.Lib.Layout

@[expose] public section

set_option maxRecDepth 16384

noncomputable section

namespace Cert.Ring

open Cert.KernelIdeal Cert.KernelIdeal.Gen

open Idealize.ShloMosaic
open Idealize.ShloMosaic.TcCoe
open Idealize.SL.Sem

section
variable {α : Type}

/-- A device's block of rows of `v`, and its block of columns, at an index. -/
theorem rowsOf512 (h : Layout.Tiles ⟨2, ![512, 1024]⟩ ⟨2, ![2048, 1024]⟩ 0 4) (c : Dev nD) (v : (⟨2, ![2048, 1024]⟩ : Shape).Idx → α)
    (r : Fin 512) (k : Fin 1024) : Layout.block ⟨2, ![512, 1024]⟩ ⟨2, ![2048, 1024]⟩ 0 4 c v h (ix2 r k) = v (ix2 (rowIn c r) k) := by
  rw [Layout.block_apply]
  congr 1
  funext a
  match a with
  | ⟨0, _⟩ => exact Fin.ext (Layout.idx_rows_val h c (ix2 r k)).1
  | ⟨1, _⟩ => exact Fin.ext (Layout.idx_rows_val h c (ix2 r k)).2
theorem rowsOf1024 (h : Layout.Tiles ⟨2, ![1024, 1024]⟩ ⟨2, ![4096, 1024]⟩ 0 4) (c : Dev nD) (v : (⟨2, ![4096, 1024]⟩ : Shape).Idx → α)
    (r : Fin 1024) (k : Fin 1024) : Layout.block ⟨2, ![1024, 1024]⟩ ⟨2, ![4096, 1024]⟩ 0 4 c v h (ix2 r k) = v (ix2 (colIn c r) k) := by
  rw [Layout.block_apply]
  congr 1
  funext a
  match a with
  | ⟨0, _⟩ => exact Fin.ext (Layout.idx_rows_val h c (ix2 r k)).1
  | ⟨1, _⟩ => exact Fin.ext (Layout.idx_rows_val h c (ix2 r k)).2
theorem colsOf1024 (h : Layout.Tiles ⟨2, ![1024, 1024]⟩ ⟨2, ![1024, 4096]⟩ 1 4) (c : Dev nD) (v : (⟨2, ![1024, 4096]⟩ : Shape).Idx → α)
    (k : Fin 1024) (n : Fin 1024) : Layout.block ⟨2, ![1024, 1024]⟩ ⟨2, ![1024, 4096]⟩ 1 4 c v h (ix2 k n) = v (ix2 k (colIn c n)) := by
  rw [Layout.block_apply]
  congr 1
  funext a
  match a with
  | ⟨0, _⟩ => exact Fin.ext (Layout.idx_cols_val h c (ix2 k n)).1
  | ⟨1, _⟩ => exact Fin.ext (Layout.idx_cols_val h c (ix2 k n)).2
end

/-! ## A window over a whole array reads the array -/

section
variable {F : FTy → Type} [FloatOps F]

theorem whole0 (f : main_arg0.ty.Contents (Elt F)) : (win0_0.blk (0 : Fin 1)).view.read (Elt F) f = f :=
  Memref.read_access_unit_zero (Elt F) main_arg0 (funext fun a => by fin_cases a <;> decide) (fun a => by fin_cases a <;> decide) f
theorem whole1 (f : main_arg1.ty.Contents (Elt F)) : (win0_1.blk (0 : Fin 1)).view.read (Elt F) f = f :=
  Memref.read_access_unit_zero (Elt F) main_arg1 (funext fun a => by fin_cases a <;> decide) (fun a => by fin_cases a <;> decide) f
theorem whole2 (f : main_arg2.ty.Contents (Elt F)) : (win0_2.blk (0 : Fin 1)).view.read (Elt F) f = f :=
  Memref.read_access_unit_zero (Elt F) main_arg2 (funext fun a => by fin_cases a <;> decide) (fun a => by fin_cases a <;> decide) f
theorem whole3 (f : main_arg3.ty.Contents (Elt F)) : (win0_3.blk (0 : Fin 1)).view.read (Elt F) f = f :=
  Memref.read_access_unit_zero (Elt F) main_arg3 (funext fun a => by fin_cases a <;> decide) (fun a => by fin_cases a <;> decide) f
theorem whole4 (f : main_arg4.ty.Contents (Elt F)) : (win0_4.blk (0 : Fin 1)).view.read (Elt F) f = f :=
  Memref.read_access_unit_zero (Elt F) main_arg4 (funext fun a => by fin_cases a <;> decide) (fun a => by fin_cases a <;> decide) f
theorem whole5 (f : main_v1.ty.Contents (Elt F)) : (win0_5.blk (0 : Fin 1)).view.read (Elt F) f = f :=
  Memref.read_access_unit_zero (Elt F) main_v1 (funext fun a => by fin_cases a <;> decide) (fun a => by fin_cases a <;> decide) f

theorem result_out (m : (ℓ : Loc nD τ sig) → Buf (Elt F) ℓ) (ρ : Dev nD → PrngReg) {r : PUnit × MemSt nD τ sig (Elt F)} (h : QC m ρ r) (c : Dev nD) :
    r.2.mem ((c.tc : Thread nD τ).loc main_v1) = outAt m ρ c :=
  ((h c (5 : Fin 6)).trans (whole5 _).symm).trans (finalA_out m ρ c)
end

/-! ## The claim -/

theorem colIn_parts (n : Fin 4096) : ∃ (c : Dev nD) (k : Fin 1024), n = colIn c k :=
  ⟨⟨n.val / 1024, by show n.val / 1024 < 4; omega⟩, ⟨n.val % 1024, by omega⟩, Fin.ext (by show n.val = n.val / 1024 * 1024 + n.val % 1024; omega)⟩

section
variable {m : (ℓ : Loc nD τ sig) → Buf (Elt Ideal) ℓ} {ρ : Dev nD → PrngReg}
variable {A0 : FVec Ideal ⟨2, ![2048, 1024]⟩ .f32} {A1 A3 A4 : FVec Ideal ⟨2, ![1024, 4096]⟩ .f32} {A2 : FVec Ideal ⟨2, ![4096, 1024]⟩ .f32}
variable (hin : ∀ c : Dev nD,
  m ((c.tc : Thread nD τ).loc main_arg0) = Layout.block ⟨2, ![512, 1024]⟩ ⟨2, ![2048, 1024]⟩ 0 4 c A0
    ∧ m ((c.tc : Thread nD τ).loc main_arg1) = Layout.block ⟨2, ![1024, 1024]⟩ ⟨2, ![1024, 4096]⟩ 1 4 c A1
    ∧ m ((c.tc : Thread nD τ).loc main_arg2) = Layout.block ⟨2, ![1024, 1024]⟩ ⟨2, ![4096, 1024]⟩ 0 4 c A2
    ∧ m ((c.tc : Thread nD τ).loc main_arg3) = Layout.block ⟨2, ![1024, 1024]⟩ ⟨2, ![1024, 4096]⟩ 1 4 c A3
    ∧ m ((c.tc : Thread nD τ).loc main_arg4) = Layout.block ⟨2, ![1024, 1024]⟩ ⟨2, ![1024, 4096]⟩ 1 4 c A4)
include hin

theorem blocks_of : Blocks m ρ A0 A1 A3 A4 A2 where
  x c r k := (congrFun (whole0 _) (ix2 r k)).trans ((congrFun (hin c).1 (ix2 r k)).trans (rowsOf512 _ c A0 r k))
  wq c k n := (congrFun (whole1 _) (ix2 k n)).trans ((congrFun (hin c).2.1 (ix2 k n)).trans (colsOf1024 _ c A1 k n))
  wo c k n := (congrFun (whole2 _) (ix2 k n)).trans ((congrFun (hin c).2.2.1 (ix2 k n)).trans (rowsOf1024 _ c A2 k n))
  wk c k n := (congrFun (whole3 _) (ix2 k n)).trans ((congrFun (hin c).2.2.2.1 (ix2 k n)).trans (colsOf1024 _ c A3 k n))
  wv c k n := (congrFun (whole4 _) (ix2 k n)).trans ((congrFun (hin c).2.2.2.2 (ix2 k n)).trans (colsOf1024 _ c A4 k n))

/-- The whole arrays' entries are numbers where every device's are. -/
theorem reals_of (hp : Cert.Pre_KernelIdeal_finite_KernelIdeal (hPre_finite_KernelIdeal := finite_facts_kernel) m) :
    (∀ r k, ∃ y : ℝ, (A0 (ix2 r k) : EReal) = y) ∧ (∀ k n, ∃ y : ℝ, (A1 (ix2 k n) : EReal) = y) ∧ ∀ k n, ∃ y : ℝ, (A3 (ix2 k n) : EReal) = y := by
  have hc := fun c => finite_entries _ _ _ _ _ (hp c)
  refine ⟨fun r k => ?_, fun k n => ?_, fun k n => ?_⟩
  · obtain ⟨y, hy⟩ := (hc (chunkOf r)).1 (ix2 (rowOf r) k)
    exact ⟨y, by
      rw [← hy, congrFun (hin (chunkOf r)).1 (ix2 (rowOf r) k)]
      exact (congrArg (fun q => A0 (ix2 q k)) (rowIn_parts r).symm).trans (rowsOf512 _ (chunkOf r) A0 (rowOf r) k).symm⟩
  · obtain ⟨c, n, rfl⟩ := colIn_parts n
    obtain ⟨y, hy⟩ := (hc c).2.1 (ix2 k n)
    exact ⟨y, by rw [← hy, congrFun (hin c).2.1 (ix2 k n)]; exact (colsOf1024 _ c A1 k n).symm⟩
  · obtain ⟨c, n, rfl⟩ := colIn_parts n
    obtain ⟨y, hy⟩ := (hc c).2.2 (ix2 k n)
    exact ⟨y, by rw [← hy, congrFun (hin c).2.2.2.1 (ix2 k n)]; exact (colsOf1024 _ c A3 k n).symm⟩

theorem out_block (hp : Cert.Pre_KernelIdeal_finite_KernelIdeal (hPre_finite_KernelIdeal := finite_facts_kernel) m) (c : Dev nD) :
    outAt m ρ c = Layout.block ⟨2, ![512, 1024]⟩ ⟨2, ![2048, 1024]⟩ 0 4 c (Ref.whole A0 A1 A2 A3 A4) := by
  obtain ⟨hx, hq, hk⟩ := reals_of hin hp
  funext i
  rw [eq_ix2 i]
  exact (outAt_eq (blocks_of hin) hx hq hk c (i 0) (i 1)).trans (rowsOf512 _ c (Ref.whole A0 A1 A2 A3 A4) (i 0) (i 1)).symm
end

theorem frame_ideal_pre : Cert.quiescent_KernelIdeal_pre_finite_KernelIdeal (hPre_finite_KernelIdeal := finite_facts_kernel) :=
  fun m ρ _ => frame_ideal m ρ trivial
theorem frame_reference_pre : Cert.quiescent_ReferenceIdeal_pre_finite_ReferenceIdeal (hPre_finite_ReferenceIdeal := finite_facts_reference) :=
  fun m ρ _ => frame_reference m ρ trivial

theorem value : Cert.algebraic_KernelIdeal_ReferenceIdeal_pre_finite_KernelIdeal (hPre_finite_KernelIdeal := finite_facts_kernel) := by
  intro m ρ m' ρ' hp hin
  refine ⟨Cert.ReferenceIdeal.Value.res_main_v59 (F := Ideal) m' 0, ?_, ?_⟩
  · refine (θ_run defs _ _).mono (fun r h c => ⟨?_, args_kept m ρ h.1 c⟩) (run_main (F := Ideal) m ρ)
    rw [Ref.res_eq]
    exact (result_out m ρ h.1 c).trans (out_block hin hp c)
  · exact (θ_run Cert.ReferenceIdeal.defs _ _).mono (fun r h => h 0) (Cert.ReferenceIdeal.Value.run (F := Ideal) m' ρ')

end Cert.Ring

end
-- ==== Proof.lean ====
/-
The proof of `Cert.Claim`: the frames of the three programs, and the kernel's result against the reference's.
-/
module

public import proofs.«01_k».proof.Defs
public import proofs.«01_k».proof.Proof.Value

@[expose] public section

noncomputable section

namespace Cert.Proof

theorem claim : Cert.Claim :=
  ⟨Cert.Kernel.Gen.facts, Cert.KernelIdeal.Gen.facts, Cert.ReferenceIdeal.Gen.facts,
    Cert.Ring.finite_facts_kernel, Cert.Ring.finite_facts_reference,
    Cert.Ring.frame_kernel, Cert.Ring.frame_ideal, Cert.Ring.frame_ideal_pre, Cert.Ring.frame_reference, Cert.Ring.frame_reference_pre,
    trivial, Cert.Ring.value⟩

end Cert.Proof

end
